-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 2048]⟩ ⟨2, ![2048, 2048]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 2048]⟩ (Layout.meshBlock [2, 4, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S2048x512 : Shape := ⟨2, ![2048, 512]⟩
abbrev S3 : Shape := ⟨1, ![3]⟩
abbrev S_ : Shape := ⟨0, ![]⟩
abbrev S1 : Shape := ⟨1, ![1]⟩
abbrev S512x512 : Shape := ⟨2, ![512, 512]⟩

abbrev nBuf : Space → Nat
  | .hbm => 2
  | .vmem => 3
  | .smem => 0
  | _ => 0

abbrev bufTy : (tb : Table) → Fin (tcTables nBuf tb) → BufTy
  | .hbm, ⟨0, _⟩ => ⟨S512x2048, .bf16⟩
  | .hbm, ⟨1, _⟩ => ⟨S2048x512, .bf16⟩
  | .local _ .vmem, ⟨0, _⟩ => ⟨S512x2048, .bf16⟩
  | .local _ .vmem, ⟨1, _⟩ => ⟨S2048x512, .bf16⟩
  | .local _ .vmem, ⟨2, _⟩ => ⟨S512x2048, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v21 : BitVec 32 := Scalar.muli v2 c16_i32_9
  let v22 : BitVec 32 := Scalar.addi c0_i32_10 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_12 : BitVec 32 := 1#32
  let v25 : BitVec 32 := Scalar.muli v20 c1_i32_12
  let v26 : BitVec 32 := Scalar.addi v24 v25
  v26.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v27 : BitVec 32 := Scalar.addi v8 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_24 : BitVec 32 := 1#32
  let v42 : BitVec 32 := Scalar.muli v37 c1_i32_24
  let v43 : BitVec 32 := Scalar.addi v41 v42
  v43.toNat
def k0_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v55 : BitVec 32 := Scalar.muli v2 c16_i32_32
  let v56 : BitVec 32 := Scalar.addi c0_i32_33 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1_i32_35 : BitVec 32 := 1#32
  let v59 : BitVec 32 := Scalar.muli v54 c1_i32_35
  let v60 : BitVec 32 := Scalar.addi v58 v59
  v60.toNat
def k0_off1 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_47 : BitVec 32 := 512#32
  let v78 : BitVec 32 := Scalar.muli v8 c512_i32_47
  let c0_i32_54 : BitVec 32 := 0#32
  ![v78.toNat, 0]
def k0_off2 (d0 : Dev nD) (c1_i32_40 : BitVec 32) : Fin 2 → Nat :=
  let c0_i32_55 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v66 : BitVec 32 := Scalar.addi v8 c1_i32_40
  let c4_i32_41 : BitVec 32 := 4#32
  let c0_i32_42 : BitVec 32 := 0#32
  let v67 : BitVec 1 := Scalar.cmpi .eq c4_i32_41 c0_i32_42
  let c1_i32_43 : BitVec 32 := 1#32
  let v68 : BitVec 32 := Scalar.select v67 c1_i32_43 c4_i32_41
  let v69 : BitVec 32 := Scalar.remsi v66 v68
  let c0_i32_45 : BitVec 32 := 0#32
  let v71 : BitVec 1 := Scalar.cmpi .slt v69 c0_i32_45
  let c0_i32_46 : BitVec 32 := 0#32
  let v72 : BitVec 1 := Scalar.cmpi .slt v68 c0_i32_46
  let v73 : BitVec 1 := Scalar.xori v71 v72
  let c0_i32_44 : BitVec 32 := 0#32
  let v70 : BitVec 1 := Scalar.cmpi .ne v69 c0_i32_44
  let v74 : BitVec 1 := Scalar.andi v73 v70
  let v75 : BitVec 32 := Scalar.addi v69 v68
  let v76 : BitVec 32 := Scalar.select v74 v75 v69
  let c512_i32 : BitVec 32 := 512#32
  let v77 : BitVec 32 := Scalar.muli v76 c512_i32
  ![0, v77.toNat]
def k0_dev4 (d0 : Dev nD) : Nat :=
  let c0_i32_51 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_50 : BitVec 32 := 16#32
  let v79 : BitVec 32 := Scalar.muli v2 c16_i32_50
  let v80 : BitVec 32 := Scalar.addi c0_i32_51 v79
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_52 : BitVec 32 := 4#32
  let v81 : BitVec 32 := Scalar.muli v5 c4_i32_52
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v66 : BitVec 32 := Scalar.addi v8 c1_i32_40
  let c4_i32_41 : BitVec 32 := 4#32
  let c0_i32_42 : BitVec 32 := 0#32
  let v67 : BitVec 1 := Scalar.cmpi .eq c4_i32_41 c0_i32_42
  let c1_i32_43 : BitVec 32 := 1#32
  let v68 : BitVec 32 := Scalar.select v67 c1_i32_43 c4_i32_41
  let v69 : BitVec 32 := Scalar.remsi v66 v68
  let c0_i32_45 : BitVec 32 := 0#32
  let v71 : BitVec 1 := Scalar.cmpi .slt v69 c0_i32_45
  let c0_i32_46 : BitVec 32 := 0#32
  let v72 : BitVec 1 := Scalar.cmpi .slt v68 c0_i32_46
  let v73 : BitVec 1 := Scalar.xori v71 v72
  let c0_i32_44 : BitVec 32 := 0#32
  let v70 : BitVec 1 := Scalar.cmpi .ne v69 c0_i32_44
  let v74 : BitVec 1 := Scalar.andi v73 v70
  let v75 : BitVec 32 := Scalar.addi v69 v68
  let v76 : BitVec 32 := Scalar.select v74 v75 v69
  let c1_i32_53 : BitVec 32 := 1#32
  let v83 : BitVec 32 := Scalar.muli v76 c1_i32_53
  let v84 : BitVec 32 := Scalar.addi v82 v83
  v84.toNat
def k0_dev5 (d0 : Dev nD) : Nat :=
  let c0_i32_68 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_67 : BitVec 32 := 16#32
  let v104 : BitVec 32 := Scalar.muli v2 c16_i32_67
  let v105 : BitVec 32 := Scalar.addi c0_i32_68 v104
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_69 : BitVec 32 := 4#32
  let v106 : BitVec 32 := Scalar.muli v5 c4_i32_69
  let v107 : BitVec 32 := Scalar.addi v105 v106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_56 : BitVec 32 := 2#32
  let v91 : BitVec 32 := Scalar.addi v8 c2_i32_56
  let c4_i32_57 : BitVec 32 := 4#32
  let c0_i32_58 : BitVec 32 := 0#32
  let v92 : BitVec 1 := Scalar.cmpi .eq c4_i32_57 c0_i32_58
  let c1_i32_59 : BitVec 32 := 1#32
  let v93 : BitVec 32 := Scalar.select v92 c1_i32_59 c4_i32_57
  let v94 : BitVec 32 := Scalar.remsi v91 v93
  let c0_i32_61 : BitVec 32 := 0#32
  let v96 : BitVec 1 := Scalar.cmpi .slt v94 c0_i32_61
  let c0_i32_62 : BitVec 32 := 0#32
  let v97 : BitVec 1 := Scalar.cmpi .slt v93 c0_i32_62
  let v98 : BitVec 1 := Scalar.xori v96 v97
  let c0_i32_60 : BitVec 32 := 0#32
  let v95 : BitVec 1 := Scalar.cmpi .ne v94 c0_i32_60
  let v99 : BitVec 1 := Scalar.andi v98 v95
  let v100 : BitVec 32 := Scalar.addi v94 v93
  let v101 : BitVec 32 := Scalar.select v99 v100 v94
  let c1_i32_70 : BitVec 32 := 1#32
  let v108 : BitVec 32 := Scalar.muli v101 c1_i32_70
  let v109 : BitVec 32 := Scalar.addi v107 v108
  v109.toNat
def k0_dev6 (d0 : Dev nD) : Nat :=
  let c0_i32_85 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_84 : BitVec 32 := 16#32
  let v129 : BitVec 32 := Scalar.muli v2 c16_i32_84
  let v130 : BitVec 32 := Scalar.addi c0_i32_85 v129
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_86 : BitVec 32 := 4#32
  let v131 : BitVec 32 := Scalar.muli v5 c4_i32_86
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_73 : BitVec 32 := 3#32
  let v116 : BitVec 32 := Scalar.addi v8 c3_i32_73
  let c4_i32_74 : BitVec 32 := 4#32
  let c0_i32_75 : BitVec 32 := 0#32
  let v117 : BitVec 1 := Scalar.cmpi .eq c4_i32_74 c0_i32_75
  let c1_i32_76 : BitVec 32 := 1#32
  let v118 : BitVec 32 := Scalar.select v117 c1_i32_76 c4_i32_74
  let v119 : BitVec 32 := Scalar.remsi v116 v118
  let c0_i32_78 : BitVec 32 := 0#32
  let v121 : BitVec 1 := Scalar.cmpi .slt v119 c0_i32_78
  let c0_i32_79 : BitVec 32 := 0#32
  let v122 : BitVec 1 := Scalar.cmpi .slt v118 c0_i32_79
  let v123 : BitVec 1 := Scalar.xori v121 v122
  let c0_i32_77 : BitVec 32 := 0#32
  let v120 : BitVec 1 := Scalar.cmpi .ne v119 c0_i32_77
  let v124 : BitVec 1 := Scalar.andi v123 v120
  let v125 : BitVec 32 := Scalar.addi v119 v118
  let v126 : BitVec 32 := Scalar.select v124 v125 v119
  let c1_i32_87 : BitVec 32 := 1#32
  let v133 : BitVec 32 := Scalar.muli v126 c1_i32_87
  let v134 : BitVec 32 := Scalar.addi v132 v133
  v134.toNat
def k0_off3 (d0 : Dev nD) : Fin 2 → Nat :=
  let c0_91 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_90 : BitVec 32 := 512#32
  let v141 : BitVec 32 := Scalar.muli v8 c512_i32_90
  let v142 : Index := Scalar.indexCast v141
  ![0, v142.toNat]
def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_92 : BitVec 32 := 512#32
  let v144 : BitVec 32 := Scalar.muli v8 c512_i32_92
  let v145 : Index := Scalar.indexCast v144
  let c0_93 : Index := 0#32
  ![v145.toNat, 0]
abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 1
  | .vmem => 0
  | .smem => 0
  | _ => 0

abbrev bufTy : (tb : Table) → Fin (tcTables nBuf tb) → BufTy
  | .hbm, ⟨0, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Group.lean ====
/-
The geometry of the exchange, free of any program: the groups of four devices along the mesh axis `z`, who sends to
whom in them, and the bands a block of rows or columns of the two arrays is.

Device `c` of the 2 × 4 × 4 mesh stands at position `c % 4` of the group `4 * (c / 4) … 4 * (c / 4) + 3`.
-/
module

public import Idealize.ShloMosaic.Lib.Layout
public import Idealize.ShloMosaic.Rules
public import Idealize.ShloMosaic.Lib.Pipeline.Kit
public import Idealize.ShloMosaic.Lib.Tactic

@[expose] public section

noncomputable section

namespace Cert.Exchange

open Idealize.ShloMosaic
open Idealize.SL Idealize.SL.RA Idealize.SL.BI
open scoped Idealize.SL.BI
open Idealize.SL.BI.BIBase Idealize.SL.Sem

/-! ## Positions and peers -/

/-- The position of a device in its group. -/
def pos (c : Fin 32) : Fin 4 := ⟨c.val % 4, Nat.mod_lt _ (by decide)⟩

set_option backward.proofsInPublic true in
/-- The device at position `z` of the group of `c`. -/
def seat (c : Fin 32) (z : Fin 4) : Fin 32 := ⟨c.val / 4 * 4 + z.val, by omega⟩

/-- The device `k + 1` positions after `c` in its group, around the group: the one `c` addresses in its step `k`. -/
def peer (k : Fin 3) (c : Fin 32) : Fin 32 := seat c ⟨(c.val % 4 + k.val + 1) % 4, Nat.mod_lt _ (by decide)⟩

/-- Going `k + 1` positions on and then the rest of the way around comes back. -/
theorem peer_rev (k : Fin 3) (c : Fin 32) : peer k.rev (peer k c) = c := by revert k c; decide

theorem rev_peer (k : Fin 3) (c : Fin 32) : peer k (peer k.rev c) = c := by revert k c; decide

/-- Step `k`'s addressing is a permutation of the devices. -/
def turn (k : Fin 3) : Fin 32 ≃ Fin 32 := ⟨peer k, peer k.rev, peer_rev k, rev_peer k⟩

/-- All steps' addressings at once. -/
def turns : Fin 32 × Fin 3 ≃ Fin 32 × Fin 3 :=
  ⟨fun p => (peer p.2 p.1, p.2), fun p => (peer p.2.rev p.1, p.2), fun p => Prod.ext (peer_rev p.2 p.1) rfl, fun p => Prod.ext (rev_peer p.2 p.1) rfl⟩

/-- A device sits in the group of each of its peers, at its own position. -/
theorem seat_peer (k : Fin 3) (c : Fin 32) : seat (peer k c) (pos c) = c := by revert k c; decide

theorem seat_pos (c : Fin 32) : seat c (pos c) = c := by revert c; decide

/-- The positions other than a device's own are its three peers', each once. -/
theorem peers_erase (c : Fin 32) :
    Finset.univ.erase (pos c) = Finset.univ.image fun k : Fin 3 => pos (peer k c) := by revert c; decide

theorem pos_peer_injective (c : Fin 32) : Function.Injective fun k : Fin 3 => pos (peer k c) := by
  intro k k'; revert c k k'; decide

/-! ## A sum paid off from the front -/

section Owing

variable {T : Type} [AddCommMonoid T] (f : Fin 3 → T)

/-- What is left of `f 0 + f 1 + f 2` once the first `j` are paid. -/
def left (j : ℕ) : T := ∑ k : Fin 3, if j ≤ k.val then f k else 0

/-- Paying the `k`-th takes its summand off. -/
theorem left_step (k : Fin 3) : left f k.val = left f (k.val + 1) + f k := by
  simp only [left, Fin.sum_univ_three]
  match k with
  | 0 => change (f 0 + f 1) + f 2 = ((0 + f 1) + f 2) + f 0; rw [zero_add, add_assoc, add_comm]
  | 1 => change (0 + f 1) + f 2 = ((0 + 0) + f 2) + f 1; rw [zero_add, zero_add, zero_add, add_comm]
  | 2 => change (0 + 0) + f 2 = ((0 + 0) + 0) + f 2; rw [add_zero, add_zero]

/-- All three paid, nothing is left. -/
theorem left_three : left f 3 = 0 := by
  unfold left
  exact Finset.sum_eq_zero fun k _ => if_neg (by omega)

/-- None paid, the whole sum is left. -/
theorem left_zero : left f 0 = ∑ k, f k := by
  unfold left
  exact Finset.sum_congr rfl fun k _ => if_pos (Nat.zero_le _)

/-- In step `k` every device is addressed by exactly one. -/
theorem addressed (k : Fin 3) (c : Fin 32) (n : ℕ) : (∑ d : Fin 32, if peer k d = c then n else 0) = n := by
  refine ((turn k).sum_comp fun e => if e = c then n else 0).trans ?_
  rw [Finset.sum_ite_eq' Finset.univ c fun _ => n, if_pos (Finset.mem_univ c)]

end Owing

/-! ## Separating conjunctions over a group -/

section Sep

variable {M : Type} [URA M]

/-- Over the four positions: a device's own, and its three peers'. -/
theorem bigSep_positions (c : Fin 32) (Φ : Fin 4 → sProp M) :
    bigSep Finset.univ Φ = iprop(Φ (pos c) ∗ bigSep Finset.univ fun k : Fin 3 => Φ (pos (peer k c))) := by
  rw [bigSep_univ_at Φ (pos c), peers_erase, bigSep_image_of_injOn (pos_peer_injective c).injOn]

/-- Over the three steps, written out. -/
theorem bigSep_steps (Φ : Fin 3 → sProp M) : bigSep Finset.univ Φ = iprop(Φ 0 ∗ Φ 1 ∗ Φ 2) :=
  bigSep_univ_eq_bigSepL [0, 1, 2] (by decide) (by decide) Φ

/-- One thing per device and step, dealt to the device whose step addresses it instead of kept by the device itself. -/
theorem deal (Φ : Fin 32 → Fin 3 → sProp M) :
    (bigSep Finset.univ fun c : Fin 32 => bigSep Finset.univ fun k : Fin 3 => Φ c k)
      = bigSep Finset.univ fun c : Fin 32 => bigSep Finset.univ fun k : Fin 3 => Φ (peer k c) k := by
  rw [← bigSep_univ_prod fun p : Fin 32 × Fin 3 => Φ p.1 p.2, bigSep_univ_equiv turns, bigSep_univ_prod]
  rfl

end Sep

/-- A buffer that falls into four parts, one per position, is the part of a device's own position and the parts of its
    three peers' positions. -/
theorem pointsTo_positions {nD : ℕ} {τ : Topo} {sig : RefSig} {Ix : Type} [DecidableEq Ix] {Val : EltTy → Type} {Name : Type}
    [DecidableEq Name] {U : Type} [URA U] {Lvl : Type} {ℓ : Loc nD τ sig} {q : PosShare TreeShare}
    (I : Fin 4 → Finset (Idx ℓ)) (hd : ∀ z z', z ≠ z' → Disjoint (I z) (I z')) (hc : ∀ i, ∃ z, i ∈ I z) (f : Buf Val ℓ) (c : Fin 32) :
    (ℓ ↦{q} f : sProp (MT nD τ sig Ix Val Name U Lvl))
      = iprop((ℓ ↦[I (pos c)]{q} f) ∗ bigSep Finset.univ fun k : Fin 3 => ℓ ↦[I (pos (peer k c))]{q} f) := by
  have hu : Finset.univ.biUnion I = Finset.univ := Finset.eq_univ_iff_forall.mpr fun i =>
    Finset.mem_biUnion.mpr ((hc i).imp fun z hz => ⟨Finset.mem_univ z, hz⟩)
  rw [← hu, pointsTo_biUnion Finset.univ I fun z _ z' _ h => hd z z' h]
  exact bigSep_positions c _

/-! ## Bands of the two arrays -/

/-- The shape of a device's block of rows (what it starts from), of its block of columns (what it ends with), and of
    the square two of them share (what one transfer moves). -/
abbrev Wide : Shape := ⟨2, ![512, 2048]⟩
abbrev Tall : Shape := ⟨2, ![2048, 512]⟩
abbrev Square : Shape := ⟨2, ![512, 512]⟩

/-- Where the square at position `z` starts in each. -/
abbrev colOff (z : Fin 4) : Fin 2 → ℕ := ![0, 512 * z.val]
abbrev rowOff (z : Fin 4) : Fin 2 → ℕ := ![512 * z.val, 0]

/-- The position whose square an element lies in. -/
def colBandOf (i : Wide.Idx) : Fin 4 := ⟨(i 1).val / 512, by have := (i 1).isLt; change _ < 2048 at this; omega⟩
def rowBandOf (i : Tall.Idx) : Fin 4 := ⟨(i 0).val / 512, by have := (i 0).isLt; change _ < 2048 at this; omega⟩

/-- The elements of the square at position `z`. -/
def colBand (z : Fin 4) : Finset Wide.Idx := Finset.univ.filter fun i => colBandOf i = z
def rowBand (z : Fin 4) : Finset Tall.Idx := Finset.univ.filter fun i => rowBandOf i = z

theorem colBand_disjoint (z z' : Fin 4) (h : z ≠ z') : Disjoint (colBand z) (colBand z') :=
  Finset.disjoint_filter.mpr fun i _ h₁ h₂ => h (h₁.symm.trans h₂)

theorem rowBand_disjoint (z z' : Fin 4) (h : z ≠ z') : Disjoint (rowBand z) (rowBand z') :=
  Finset.disjoint_filter.mpr fun i _ h₁ h₂ => h (h₁.symm.trans h₂)

theorem colBand_cover (i : Wide.Idx) : ∃ z, i ∈ colBand z := ⟨colBandOf i, by simp [colBand]⟩

theorem rowBand_cover (i : Tall.Idx) : ∃ z, i ∈ rowBand z := ⟨rowBandOf i, by simp [rowBand]⟩

/-- The rectangle that starts where a square does has that square's elements: columns, -/
theorem colRect_set (z : Fin 4) (inb) : (Rect.unit (s := Wide) (colOff z) Square.size inb).set = colBand z := by
  ext i
  have h0 := (i 0).isLt
  change _ < 512 at h0
  simp only [Rect.mem_set_unit, colBand, Finset.mem_filter, Finset.mem_univ, true_and, colBandOf, Fin.ext_iff]
  refine Fin.forall_fin_two.trans ?_
  change (0 ≤ (i 0).val ∧ (i 0).val < 0 + 512) ∧ (512 * z.val ≤ (i 1).val ∧ (i 1).val < 512 * z.val + 512) ↔ _
  omega

/-- and rows. -/
theorem rowRect_set (z : Fin 4) (inb) : (Rect.unit (s := Tall) (rowOff z) Square.size inb).set = rowBand z := by
  ext i
  have h1 := (i 1).isLt
  change _ < 512 at h1
  simp only [Rect.mem_set_unit, rowBand, Finset.mem_filter, Finset.mem_univ, true_and, rowBandOf, Fin.ext_iff]
  refine Fin.forall_fin_two.trans ?_
  change (512 * z.val ≤ (i 0).val ∧ (i 0).val < 512 * z.val + 512) ∧ (0 ≤ (i 1).val ∧ (i 1).val < 0 + 512) ↔ _
  omega

/-! ## The exchanged contents -/

set_option backward.proofsInPublic true in
/-- What device `c` holds after the exchange, of contents `x` per device: in the square at row position `z`, the square
    at column position `pos c` of the device at position `z` of its group. -/
def gathered {α : Type} (x : Fin 32 → Wide.Idx → α) (c : Fin 32) : Tall.Idx → α := fun i =>
  x (seat c (rowBandOf i)) (show Wide.Idx from Fin.cons ⟨(i 0).val % 512, Nat.mod_lt _ (by decide)⟩
    (Fin.cons ⟨512 * (pos c).val + (i 1).val, by
      have h := (i 1).isLt
      have hp := (pos c).isLt
      change _ < 512 at h
      change _ < 2048
      omega⟩ finZeroElim))

/-- Element by element: an element of the square `s` devices send to `c`, read where `s` holds it, is what `c` holds
    where it lands. -/
theorem gathered_landed {α : Type} (x : Fin 32 → Wide.Idx → α) (s c : Fin 32) (h : seat c (pos s) = s)
    (inb) (inb') (j : Square.Idx) :
    gathered x c ((Rect.unit (s := Tall) (rowOff (pos s)) Square.size inb).idx j)
      = x s ((Rect.unit (s := Wide) (colOff (pos c)) Square.size inb').idx j) := by
  have h0 : (j 0).val < 512 := (j 0).isLt
  unfold gathered
  have hb : rowBandOf ((Rect.unit (s := Tall) (rowOff (pos s)) Square.size inb).idx j) = pos s := by
    refine Fin.ext ?_
    change (512 * (pos s).val + 1 * (j 0).val) / 512 = (pos s).val
    omega
  rw [hb, h]
  refine congrArg (x s) (funext ?_)
  refine Fin.forall_fin_two.mpr ⟨Fin.ext ?_, Fin.ext ?_⟩
  · change (512 * (pos s).val + 1 * (j 0).val) % 512 = 0 + 1 * (j 0).val
    omega
  · change 512 * (pos c).val + (0 + 1 * (j 1).val) = 512 * (pos c).val + 1 * (j 1).val
    omega

end Cert.Exchange

end
-- ==== Proof.Blocks.lean ====
/-
The exchange read on whole arrays: what it makes of the blocks of rows of an array is the array's blocks of columns.
-/
module

public import proofs.«01_k».proof.Proof.Group

@[expose] public section

noncomputable section

namespace Cert.Exchange

open Idealize.ShloMosaic

/-- The shape of the array that the devices of one group share. -/
abbrev Whole : Shape := ⟨2, ![2048, 2048]⟩

/-- The mesh axis an array is cut along has a device's position in its group as its coordinate. -/
theorem position (c : Fin 32) : Layout.meshLin [2, 4, 4] c.val [2] = (pos c).val := by revert c; decide

theorem pos_seat (c : Fin 32) (z : Fin 4) : pos (seat c z) = z := by revert c z; decide

/-- If every device starts from its block of rows of `v`, every device ends with its block of columns of `v`. -/
theorem gathered_blocks {α : Type} (v : Whole.Idx → α) (c : Fin 32) :
    gathered (fun d : Fin 32 => Layout.blockN Wide Whole (Layout.meshBlock [2, 4, 4] ![[2], []] d) v) c
      = Layout.blockN Tall Whole (Layout.meshBlock [2, 4, 4] ![[], [2]] c) v := by
  funext i
  unfold gathered Layout.blockN
  refine congrArg v (funext ?_)
  refine Fin.forall_fin_two.mpr ⟨Fin.ext ?_, Fin.ext ?_⟩
  · change Layout.meshLin [2, 4, 4] (seat c (rowBandOf i)).val [2] * 512 + (i 0).val % 512 = 0 * 2048 + (i 0).val
    rw [position, pos_seat]
    change (i 0).val / 512 * 512 + _ = _
    omega
  · change 0 * 2048 + (512 * (pos c).val + (i 1).val) = Layout.meshLin [2, 4, 4] c.val [2] * 512 + (i 1).val
    rw [position]
    omega

end Cert.Exchange

end
-- ==== Proof.KernelIdeal.Schedule.lean ====
/-
The all-to-all kernel's protocol: its semaphore cells, the bands of its buffers they pass around with their contents,
and what every device owes at launch. Stated over any float instance.

Every device has seven cells. Its BARRIER cell is raised once by each of its three peers; the peer's unit hands over
the band of the peer's result buffer that this device will write there. Its three SEND cells and three RECEIVE cells
each take the credit of one transfer: a send cell returns the band of columns that was read, a receive cell hands over
the band of rows that arrived, at the contents it arrived with.
-/
module

public import proofs.«01_k».proof.Proof.Group
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources: the pipeline's rounds, and the exchange's with three duty names -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state the run starts from: any memory, any generator registers, every counter at zero. -/
def s₀ : MemSt nD τ sig (Elt F) := ⟨m, fun _ => 0, ρ⟩

/-! ## The kernel's addressing in closed form -/

/-- The barrier signals and the transfers of step `k` go to `peer k`. -/
theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 0 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 2 c := by revert c; decide +kernel

/-- A transfer writes, and the device itself stores to, the band of rows at the sender's position; -/
theorem off1_eq (c : Dev nD) : k0_off1 c = rowOff (pos c) := k0_off1_eq c
theorem off4_eq (c : Dev nD) : k0_off4 c = rowOff (pos c) := k0_off4_eq c
/-- step `k` reads the band of columns at the receiver's position, the device itself the one at its own. -/
theorem off2_eq (c : Dev nD) (k : Fin 3) : k0_off2 c (BitVec.ofNat 32 (1 + k.val)) = colOff (pos (peer k c)) := by
  revert c k; decide +kernel
theorem off3_eq (c : Dev nD) : k0_off3 c = colOff (pos c) := k0_off3_eq c

/-! ## Memrefs and cells -/

abbrev xM : Memref sig .tc .vmem S512x2048 .bf16 := Memref.whole cc0_stg0_0
abbrev oM : Memref sig .tc .vmem S2048x512 .bf16 := Memref.whole cc0_stg1_0
abbrev cM : Memref sig .tc .vmem S512x2048 .bf16 := Memref.whole cc0_scratch0

/-- The rows device `c` writes into a peer's result buffer, and the columns it sends there in step `k`. -/
abbrev oS (c : Dev nD) : Memref sig .tc .vmem S512x512 .bf16 :=
  oM.slice (Rect.unit (s := S2048x512) (k0_off1 c) S512x512.size (k0_off1_inb c)) (fun _ => rfl)
abbrev cS (k : Fin 3) (c : Dev nD) : Memref sig .tc .vmem S512x512 .bf16 :=
  cM.slice (Rect.unit (s := S512x2048) (k0_off2 c (BitVec.ofNat 32 (1 + k.val))) S512x512.size (k0_off2_inb c k)) (fun _ => rfl)

/-- The barrier semaphore of the runtime, and the send and receive semaphores of step `k`. -/
abbrev barS : Sem sig := (SemArray.scalar (sig.barrier 0 rfl) : Sems sig S_).sem
def sendS (k : Fin 3) : DmaSem sig := ⟨2 + k.val, by change 2 + k.val < 8; omega⟩
def recvS (k : Fin 3) : DmaSem sig := ⟨5 + k.val, by change 5 + k.val < 8; omega⟩

/-- The kernel names them as the elements of its two semaphore arrays. -/
theorem send0_eq : ((cc0_scratch1.slice (Rect.unit (s := S3) ![0] S1.size inb_S3_S1_0)).squeeze S_ squeezes_S1_S_).sem = sendS 0 := by decide +kernel
theorem send1_eq : ((cc0_scratch1.slice (Rect.unit (s := S3) ![1] S1.size inb_S3_S1_1)).squeeze S_ squeezes_S1_S_).sem = sendS 1 := by decide +kernel
theorem send2_eq : ((cc0_scratch1.slice (Rect.unit (s := S3) ![2] S1.size inb_S3_S1_2)).squeeze S_ squeezes_S1_S_).sem = sendS 2 := by decide +kernel
theorem recv0_eq : ((cc0_scratch2.slice (Rect.unit (s := S3) ![0] S1.size inb_S3_S1_0)).squeeze S_ squeezes_S1_S_).sem = recvS 0 := by decide +kernel
theorem recv1_eq : ((cc0_scratch2.slice (Rect.unit (s := S3) ![1] S1.size inb_S3_S1_1)).squeeze S_ squeezes_S1_S_).sem = recvS 1 := by decide +kernel
theorem recv2_eq : ((cc0_scratch2.slice (Rect.unit (s := S3) ![2] S1.size inb_S3_S1_2)).squeeze S_ squeezes_S1_S_).sem = recvS 2 := by decide +kernel

/-- A device's seven cells by name: the barrier, and per step the send and the receive. -/
inductive Cell where
  | bar
  | send (k : Fin 3)
  | recv (k : Fin 3)
  deriving DecidableEq

instance : Fintype Cell :=
  ⟨{.bar, .send 0, .send 1, .send 2, .recv 0, .recv 1, .recv 2}, fun x => by
    match x with
    | .bar => decide
    | .send 0 => decide
    | .send 1 => decide
    | .send 2 => decide
    | .recv 0 => decide
    | .recv 1 => decide
    | .recv 2 => decide⟩

/-- The semaphore of a cell, and the cell of a semaphore. -/
def semOf : Cell → SemLoc sig
  | .bar => .reg barS
  | .send k => .dma (sendS k)
  | .recv k => .dma (recvS k)

def cellOf? : SemLoc sig → Option Cell
  | .reg s => if s = barS then some .bar else none
  | .dma q => if h : 2 ≤ q.val ∧ q.val < 5 then some (.send ⟨q.val - 2, by omega⟩)
      else if h : 5 ≤ q.val ∧ q.val < 8 then some (.recv ⟨q.val - 5, by omega⟩) else none

theorem cellOf_semOf (x : Cell) : cellOf? (semOf x) = some x := by revert x; decide +kernel

theorem semOf_injective : Function.Injective semOf := fun x y h =>
  Option.some.inj ((cellOf_semOf x).symm.trans ((congrArg cellOf? h).trans (cellOf_semOf y)))

/-- Cell `x` of device `c`. -/
abbrev cell (c : Dev nD) (x : Cell) : GSem nD τ sig := ((c : Thread nD τ), semOf x)

theorem cell_inj {c c' : Dev nD} {x x' : Cell} (h : cell c x = cell c' x') : c = c' ∧ x = x' :=
  ⟨congrArg (fun g : GSem nD τ sig => g.1.1) h, semOf_injective (congrArg Prod.snd h)⟩

/-- The credit of one transfer. -/
abbrev N : ℕ := (oS 0).view.dmaCredit
theorem N_pos : 0 < N := View.dmaCredit_pos _ (by decide)

/-- Every transfer's two sides count the same credit, whatever the device and the step. -/
theorem credit_o (c : Dev nD) : (oS c).view.dmaCredit = N := rfl
theorem credit_c (k : Fin 3) (c : Dev nD) : (cS k c).view.dmaCredit = N := rfl

/-! ## Contents -/

/-- What device `c`'s input staging buffer holds: its block of the array. -/
def xstg (c : Dev nD) : (cc0_stg0_0 : Ref sig .tc).ty.Contents (Elt F) :=
  (win0_0.blk (0 : Fin 1)).view.read (Elt F) ((s₀ m ρ).mem ((c : Thread nD τ).loc main_arg0))

/-- What its result staging buffer ends with. -/
def outAt (c : Dev nD) : (cc0_stg1_0 : Ref sig .tc).ty.Contents (Elt F) := gathered (xstg m ρ) c

/-- The band of columns at position `z` of device `c`'s communication buffer, at contents `f`; -/
def cBand (c : Dev nD) (z : Fin 4) (f : Buf (Elt F) ((c : Thread nD τ).loc cc0_scratch0)) : sProp 𝕄 :=
  ((c : Thread nD τ).loc cc0_scratch0) ↦[colBand z]{fullShare} f
/-- the band of rows at position `z` of its result staging buffer, at contents `f`. -/
def oBand (c : Dev nD) (z : Fin 4) (f : Buf (Elt F) ((c : Thread nD τ).loc cc0_stg1_0)) : sProp 𝕄 :=
  ((c : Thread nD τ).loc cc0_stg1_0) ↦[rowBand z]{fullShare} f

omit [FloatOps F] in
instance cBand_storable (c : Dev nD) (z : Fin 4) (f) : BI.Storable (upEmb : UEmb _ 𝕄) (cBand (F := F) c z f) := by unfold cBand; infer_instance
omit [FloatOps F] in
instance oBand_storable (c : Dev nD) (z : Fin 4) (f) : BI.Storable (upEmb : UEmb _ 𝕄) (oBand (F := F) c z f) := by unfold oBand; infer_instance

omit [FloatOps F] in
/-- A communication buffer is its own band and the three it sends; -/
theorem cBands (c : Dev nD) (f : Buf (Elt F) ((c : Thread nD τ).loc cc0_scratch0)) :
    (((c : Thread nD τ).loc cc0_scratch0) ↦{fullShare} f : sProp 𝕄)
      = iprop(cBand c (pos c) f ∗ bigSep Finset.univ fun k : Fin 3 => cBand c (pos (peer k c)) f) :=
  pointsTo_positions (ℓ := (c : Thread nD τ).loc cc0_scratch0) (fun z => colBand z) (fun z z' h => colBand_disjoint z z' h) (fun i => colBand_cover i) f c

omit [FloatOps F] in
/-- a result buffer is its own band and the three its peers fill. -/
theorem oBands (c : Dev nD) (f : Buf (Elt F) ((c : Thread nD τ).loc cc0_stg1_0)) :
    (((c : Thread nD τ).loc cc0_stg1_0) ↦{fullShare} f : sProp 𝕄)
      = iprop(oBand c (pos c) f ∗ bigSep Finset.univ fun k : Fin 3 => oBand c (pos (peer k c)) f) :=
  pointsTo_positions (ℓ := (c : Thread nD τ).loc cc0_stg1_0) (fun z => rowBand z) (fun z z' h => rowBand_disjoint z z' h) (fun i => rowBand_cover i) f c

/-! ## The schedule -/

/-- Duty `k` of `c`'s barrier cell, paid by the device whose step `k` addresses `c`: that device's band of rows at `c`'s
    position, at any contents. -/
def barPay (k : Fin 3) (c : Dev nD) : sProp 𝕄 := iprop(∃ f, oBand (peer k.rev c) (pos c) f)
/-- The send cell of step `k`: the band of columns the step read. -/
def sendPay (k : Fin 3) (c : Dev nD) : sProp 𝕄 := cBand c (pos (peer k c)) (xstg m ρ c)
/-- The receive cell of step `k`: the band of rows at the sender's position, as the kernel is to leave it. -/
def recvPay (k : Fin 3) (c : Dev nD) : sProp 𝕄 := oBand c (pos (peer k.rev c)) (outAt m ρ c)

/-- One round: the barrier cells have the three duties, one unit each, the others one duty of a transfer's credit. -/
def sched : Rounds.Schedule (GSem nD τ sig) (Fin 3) 𝕄 where
  duties g r := if r = 0 ∧ g.1.2 = .tc then (match cellOf? g.2 with
    | some .bar => Finset.univ
    | some _ => {0}
    | none => ∅) else ∅
  unitless _ := False
  amount g _ _ := match cellOf? g.2 with
    | some .bar => 1
    | _ => N
  payload g _ d := match cellOf? g.2 with
    | some .bar => barPay d g.1.1
    | some (.send k) => sendPay m ρ k g.1.1
    | some (.recv k) => recvPay m ρ k g.1.1
    | none => iprop(emp)
  amount_pos g _ _ _ := by
    split
    · exact Nat.one_pos
    · exact N_pos

instance sched_payload_storable (g : GSem nD τ sig) (r : ℕ) (d : Fin 3) :
    BI.Storable (upEmb : UEmb _ 𝕄) ((sched (F := F) m ρ).payload g r d) := by
  unfold sched barPay sendPay recvPay
  dsimp only
  split <;> infer_instance

section Sched

variable (c : Dev nD) (k d : Fin 3)

omit [FloatOps F] in
theorem duties_bar : (sched (F := F) m ρ).duties (cell c .bar) 0 = Finset.univ := by
  dsimp only [sched]; rw [if_pos ⟨rfl, rfl⟩, cellOf_semOf]
omit [FloatOps F] in
theorem duties_send : (sched (F := F) m ρ).duties (cell c (.send k)) 0 = {0} := by
  dsimp only [sched]; rw [if_pos ⟨rfl, rfl⟩, cellOf_semOf]
omit [FloatOps F] in
theorem duties_recv : (sched (F := F) m ρ).duties (cell c (.recv k)) 0 = {0} := by
  dsimp only [sched]; rw [if_pos ⟨rfl, rfl⟩, cellOf_semOf]
omit [FloatOps F] in
/-- No cell has a second round. -/
theorem duties_later (g : GSem nD τ sig) (r : ℕ) (hr : 0 + 1 ≤ r) : (sched (F := F) m ρ).duties g r = ∅ :=
  if_neg fun h => by omega

omit [FloatOps F] in
theorem mem_bar : d ∈ (sched (F := F) m ρ).duties (cell c .bar) 0 := by rw [duties_bar]; exact Finset.mem_univ d
omit [FloatOps F] in
theorem mem_send : (0 : Fin 3) ∈ (sched (F := F) m ρ).duties (cell c (.send k)) 0 := by rw [duties_send]; exact Finset.mem_singleton_self _
omit [FloatOps F] in
theorem mem_recv : (0 : Fin 3) ∈ (sched (F := F) m ρ).duties (cell c (.recv k)) 0 := by rw [duties_recv]; exact Finset.mem_singleton_self _

omit [FloatOps F] in
theorem amount_bar : (sched (F := F) m ρ).amount (cell c .bar) 0 d = 1 := by dsimp only [sched]; rw [cellOf_semOf]
omit [FloatOps F] in
theorem amount_send : (sched (F := F) m ρ).amount (cell c (.send k)) 0 d = N := by dsimp only [sched]; rw [cellOf_semOf]
omit [FloatOps F] in
theorem amount_recv : (sched (F := F) m ρ).amount (cell c (.recv k)) 0 d = N := by dsimp only [sched]; rw [cellOf_semOf]

omit [FloatOps F] in
theorem expect_bar : (sched (F := F) m ρ).expect (cell c .bar) 0 = 3 := by
  unfold Schedule.expect Schedule.amountOf
  rw [duties_bar, Finset.sum_congr rfl fun d _ => amount_bar m ρ c d, Finset.sum_const, Finset.card_univ, Fintype.card_fin, smul_eq_mul]
omit [FloatOps F] in
theorem expect_send : (sched (F := F) m ρ).expect (cell c (.send k)) 0 = N := by
  unfold Schedule.expect Schedule.amountOf; rw [duties_send, Finset.sum_singleton, amount_send]
omit [FloatOps F] in
theorem expect_recv : (sched (F := F) m ρ).expect (cell c (.recv k)) 0 = N := by
  unfold Schedule.expect Schedule.amountOf; rw [duties_recv, Finset.sum_singleton, amount_recv]

omit [FloatOps F] in
theorem payload_bar : (sched (F := F) m ρ).payload (cell c .bar) 0 d = barPay d c := by dsimp only [sched]; rw [cellOf_semOf]
omit [FloatOps F] in
theorem payload_send : (sched (F := F) m ρ).payload (cell c (.send k)) 0 d = sendPay m ρ k c := by dsimp only [sched]; rw [cellOf_semOf]
omit [FloatOps F] in
theorem payload_recv : (sched (F := F) m ρ).payload (cell c (.recv k)) 0 d = recvPay m ρ k c := by dsimp only [sched]; rw [cellOf_semOf]

omit [FloatOps F] in
/-- What a wait for a whole round hands over: at the barrier, the three peers' bands, each under the step that writes it; -/
theorem rest_bar : bigSep ((sched (F := F) m ρ).duties (cell c .bar) 0 \ ∅) (fun d => (sched (F := F) m ρ).payload (cell c .bar) 0 d)
    = bigSep Finset.univ fun j : Fin 3 => iprop(∃ f, oBand (peer j c) (pos c) f) := by
  rw [Finset.sdiff_empty, duties_bar, bigSep_congr fun d _ => payload_bar m ρ c d,
    bigSep_univ_equiv (Fin.revPerm : Fin 3 ≃ Fin 3) fun j => iprop(∃ f, oBand (peer j c) (pos c) f)]
  rfl
omit [FloatOps F] in
theorem rest_send : bigSep ((sched (F := F) m ρ).duties (cell c (.send k)) 0 \ ∅) (fun d => (sched (F := F) m ρ).payload (cell c (.send k)) 0 d)
    = sendPay m ρ k c := by
  rw [Finset.sdiff_empty, duties_send, bigSep_singleton, payload_send]
omit [FloatOps F] in
theorem rest_recv : bigSep ((sched (F := F) m ρ).duties (cell c (.recv k)) 0 \ ∅) (fun d => (sched (F := F) m ρ).payload (cell c (.recv k)) 0 d)
    = recvPay m ρ k c := by
  rw [Finset.sdiff_empty, duties_recv, bigSep_singleton, payload_recv]

end Sched

/-! ## What every device owes at launch, and the levels -/

/-- Step `k`'s transfer and step `k`'s signal, as debts to the peer's cells. -/
def owedSend (c : Dev nD) (k : Fin 3) : CellTallies nD τ sig Unit := tallyAt (cell (peer k c) (.recv k)) () N
def owedSignal (c : Dev nD) (k : Fin 3) : CellTallies nD τ sig Unit := tallyAt (cell (peer k c) .bar) () 1

/-- All three transfers and all three signals; a device pays the signals first. -/
def O₀ (c : Dev nD) : CellTallies nD τ sig Unit := left (owedSend c) 0 + left (owedSignal c) 0

/-- Debts are counted at TensorCore cells, the barrier cells below the receive cells and above all others. -/
def L (g : GSem nD τ sig) : Finset Unit := if g.1.2 = .tc then {()} else ∅
def lv (g : GSem nD τ sig) (_ : Unit) : ℕ := match cellOf? g.2 with
  | some .bar => 1
  | some (.recv _) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (cell c .bar) () = 1 := by unfold lv; rw [cellOf_semOf]
theorem lv_recv (c : Dev nD) (k : Fin 3) : lv (cell c (.recv k)) () = 2 := by unfold lv; rw [cellOf_semOf]

/-- A sum of debts is somewhere positive only where a summand is. -/
theorem left_pos {f : Fin 3 → CellTallies nD τ sig Unit} {j : ℕ} {g : GSem nD τ sig} {u : Unit} (h : 0 < left f j g u) :
    ∃ k, 0 < f k g u := by
  by_contra hn
  have h0 : ∀ k, f k g u = 0 := fun k => Nat.eq_zero_of_not_pos fun hk => hn ⟨k, hk⟩
  unfold left at h
  rw [Fin.sum_univ_three, Pi.add_apply, Finsupp.add_apply, Pi.add_apply, Finsupp.add_apply] at h
  have hz (k : Fin 3) : (if j ≤ k.val then f k else 0) g u = 0 := by split; exacts [h0 k, rfl]
  rw [hz, hz, hz] at h
  exact Nat.lt_irrefl 0 h

theorem tallyAt_pos {g g' : GSem nD τ sig} {n : ℕ} {u : Unit} (h : 0 < tallyAt (Ix := Unit) g () n g' u) : g' = g := by
  by_contra hn
  rw [tallyAt_apply, if_neg (fun h' => hn h'.1)] at h
  exact Nat.lt_irrefl 0 h

theorem owedSend_pos {c : Dev nD} {j : ℕ} {g : GSem nD τ sig} {u : Unit} (h : 0 < left (owedSend c) j g u) :
    ∃ k, g = cell (peer k c) (.recv k) := (left_pos h).imp fun k hk => tallyAt_pos hk

/-- What is owed at launch is owed to barrier cells and receive cells. -/
theorem O₀_pos {c : Dev nD} {g : GSem nD τ sig} {u : Unit} (h : 0 < O₀ c g u) :
    (∃ k, g = cell (peer k c) (.recv k)) ∨ ∃ k, g = cell (peer k c) .bar := by
  unfold O₀ at h
  rw [Pi.add_apply, Finsupp.add_apply] at h
  rcases Nat.eq_zero_or_pos (left (owedSend c) 0 g u) with h0 | h0
  · rw [h0, Nat.zero_add] at h
    exact .inr ((left_pos h).imp fun k hk => tallyAt_pos hk)
  · exact .inl (owedSend_pos h0)

omit [FloatOps F] in
/-- A staging semaphore may be waited for with all debts open, and with none. -/
theorem mayWait_stage (c : Dev nD) (q : DmaSem sig) (hq : cellOf? (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp]; unfold lv; rw [hq])
      (fun g u hg => by
        rcases O₀_pos hg with ⟨k, rfl⟩ | ⟨k, rfl⟩
        · rw [lv_recv]; decide
        · rw [lv_bar]; decide)
  · rw [MayWait_zero]; iintro -; iempintro

omit [FloatOps F] in
/-- The barrier may be waited for with the transfers owed. -/
theorem mayWait_bar (c : Dev nD) :
    (levAts L lv : sProp 𝕄) ⊢ MayWait (c : Thread nD τ) (.reg barS) () (left (owedSend c) 0) :=
  MayOwe.of_cut (L := L) (lev := lv) 1 (fun p hp => by rw [Finset.mem_singleton.mp hp, L_tc]; exact Finset.mem_singleton_self _)
    (fun g u hg => by obtain ⟨k, rfl⟩ := owedSend_pos hg; exact Finset.mem_singleton_self _)
    (fun p hp => by rw [Finset.mem_singleton.mp hp]; exact le_of_eq (lv_bar c))
    (fun g u hg => by obtain ⟨k, rfl⟩ := owedSend_pos hg; rw [lv_recv]; decide)

end Cert.KernelIdeal.Run

end
-- ==== Proof.KernelIdeal.Body.lean ====
/-
The all-to-all kernel's body on one device, executed once from the state the launch deals it: every effect by its rule,
the three steps of each kind by one lemma. It ends with the result buffer at the exchanged contents.
-/
module

public import proofs.«01_k».proof.Proof.KernelIdeal.Schedule
public import proofs.«01_k».proof.Proof.Gen.KernelIdeal.Points
public import Idealize.ShloMosaic.Lib.Pipeline.Value
public import Idealize.ShloMosaic.Lib.Ring

@[expose] public section

noncomputable section

namespace Cert.KernelIdeal.Run

open Cert.KernelIdeal Cert.KernelIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The slices' elements and contents -/

/-- A square of the result buffer that starts where the rows of position `z` do has their elements; -/
theorem rows_set (off : Fin 2 → ℕ) (inb) (z : Fin 4) (h : off = rowOff z) :
    ((View.whole cc0_stg1_0).slice (Rect.unit (s := S2048x512) off S512x512.size inb)).set = rowBand z := by
  subst h; rw [View.set_slice_whole]; exact rowRect_set z inb
/-- likewise the columns, of the communication buffer. -/
theorem cols_set (off : Fin 2 → ℕ) (inb) (z : Fin 4) (h : off = colOff z) :
    ((View.whole cc0_scratch0).slice (Rect.unit (s := S512x2048) off S512x512.size inb)).set = colBand z := by
  subst h; rw [View.set_slice_whole]; exact colRect_set z inb

theorem oS_set (c : Dev nD) : (oS c).view.set = rowBand (pos c) := rows_set _ _ _ (off1_eq c)
theorem cS_set (k : Fin 3) (c : Dev nD) : (cS k c).view.set = colBand (pos (peer k c)) := cols_set _ _ _ (off2_eq c k)

omit [FloatOps F] in
/-- Writing the columns of `s` at the position of `c` over the rows of `c` at the position of `s` leaves there what the
    exchange is to leave there. -/
theorem landed (x : Dev nD → (cc0_stg0_0 : Ref sig .tc).ty.Contents (Elt F)) (s c : Dev nD) (h : seat c (pos s) = s)
    (offr offc : Fin 2 → ℕ) (inbr inbc) (hr : offr = rowOff (pos s)) (hc : offc = colOff (pos c))
    (fd : (cc0_stg1_0 : Ref sig .tc).ty.Contents (Elt F)) (i : Tall.Idx) (hi : i ∈ rowBand (pos s)) :
    ((View.whole cc0_stg1_0).slice (Rect.unit (s := S2048x512) offr S512x512.size inbr)).write (Elt F) fd
      (((View.whole cc0_scratch0).slice (Rect.unit (s := S512x2048) offc S512x512.size inbc)).read (Elt F) (x s)) Finset.univ i
      = gathered x c i := by
  have hi' := (rows_set offr inbr (pos s) hr).symm ▸ hi
  subst hr hc
  obtain ⟨j, -, rfl⟩ := Finset.mem_map.mp hi'
  rw [View.write_emb_of_mem _ _ (Finset.mem_univ j)]
  exact (gathered_landed x s c h inbr inbc j).symm

/-- What a transfer of step `k` leaves at its receiver is the receive cell's payload; -/
theorem landed_send (k : Fin 3) (c : Dev nD) (fd : Buf (Elt F) ((oS c).view.loc (peer k c : Thread nD τ))) :
    ((oS c).view.loc (peer k c : Thread nD τ) ↦[(oS c).view.set]{fullShare}
        ((oS c).view.write (Elt F) fd ((cS k c).view.read (Elt F) (xstg m ρ c)) Finset.univ) : sProp 𝕄)
      ⊢ (sched m ρ).payload (cell (peer k c) (.recv k)) 0 0 := by
  rw [payload_recv]; unfold recvPay oBand
  rw [peer_rev]
  rw [oS_set]
  exact Entails.of_eq (pointsTo_congr fun i hi => landed (xstg m ρ) c (peer k c) (seat_peer k c) _ _ _ _ (off1_eq c) (off2_eq c k) fd i hi)

/-- what it read is the send cell's payload, -/
theorem sent (k : Fin 3) (c : Dev nD) :
    ((cS k c).view.loc (c : Thread nD τ) ↦[(cS k c).view.set]{fullShare} xstg m ρ c : sProp 𝕄)
      ⊢ (sched m ρ).payload (cell c (.send k)) 0 0 := by
  rw [payload_send, cS_set]; exact BI.Entails.refl _

/-- the device's own square, which it stores itself, likewise. -/
theorem landed_own (c : Dev nD) (fd : Buf (Elt F) ((c : Thread nD τ).loc cc0_stg1_0)) :
    (((c : Thread nD τ).loc cc0_stg1_0) ↦[rowBand (pos c)]{fullShare}
        ((oM.access (Rect.unit (s := S2048x512) (k0_off4 c) S512x512.size (k0_off4_inb c))).write (Elt F) fd
          ((cM.access (Rect.unit (s := S512x2048) (k0_off3 c) S512x512.size (k0_off3_inb c))).read (Elt F) (xstg m ρ c)) Finset.univ) : sProp 𝕄)
      ⊢ oBand c (pos c) (outAt m ρ c) := by
  unfold oBand
  exact Entails.of_eq (pointsTo_congr fun i hi => landed (xstg m ρ) c c (seat_pos c) _ _ _ _ (off4_eq c) (off3_eq c) fd i hi)

/-! ## What a device starts from and ends with -/

/-- Every cell of every device has its invariant, under the name the launch allocated it, and has reached round 0. -/
def records (K : Dev nD × Cell → ℕ) : sProp 𝕄 :=
  bigSep Finset.univ fun p : Dev nD × Cell => iprop(cellInv ER (sched m ρ) (K p) (cell p.1 p.2) ∗ reached ER (cell p.1 p.2) 0)

instance records_persistent (K : Dev nD × Cell → ℕ) : BI.Persistent (records m ρ K) := by unfold records; infer_instance

theorem record_at (K : Dev nD × Cell → ℕ) (c : Dev nD) (x : Cell) :
    records m ρ K ⊢ iprop(cellInv ER (sched m ρ) (K (c, x)) (cell c x) ∗ reached ER (cell c x) 0) :=
  bigSep_elim (Finset.mem_univ ((c, x) : Dev nD × Cell))

/-- Device `c`'s own share: its positions at round 0 of its seven cells, and the tokens of the duties it pays, which are
    duty `k` of its step-`k` peer's barrier cell, that peer's step-`k` receive cell, and its own send cells. -/
def share (c : Dev nD) : sProp 𝕄 :=
  iprop(atPos ER (cell c .bar) 0 ∅ 0
    ∗ (bigSep Finset.univ fun k : Fin 3 => atPos ER (cell c (.send k)) 0 ∅ 0)
    ∗ (bigSep Finset.univ fun k : Fin 3 => atPos ER (cell c (.recv k)) 0 ∅ 0)
    ∗ (bigSep Finset.univ fun k : Fin 3 => dutyTok ER (cell (peer k c) .bar) 0 k)
    ∗ (bigSep Finset.univ fun k : Fin 3 => dutyTok ER (cell (peer k c) (.recv k)) 0 0)
    ∗ (bigSep Finset.univ fun k : Fin 3 => dutyTok ER (cell c (.send k)) 0 0))

/-- Its credit: three units at its barrier cell, one transfer at each receive cell. -/
def credits (c : Dev nD) : sProp 𝕄 :=
  iprop(cred (tallyAt (cell c .bar) () 3) ∗ bigSep Finset.univ fun k : Fin 3 => cred (tallyAt (cell c (.recv k)) () N))

def start (c : Dev nD) : sProp 𝕄 :=
  iprop((∃ K, records m ρ K ∗ share c) ∗ credits c ∗ levAts L lv)

/-- Before the kernel's one grid point: that, and the communication buffer at any contents. -/
def Φ₀ (c : Dev nD) : sProp 𝕄 := iprop(start m ρ c ∗ ∃ f, ((c : Thread nD τ).loc cc0_scratch0) ↦{fullShare} f)
/-- After it: the communication buffer again, and all seven cells closed, their counters at zero. -/
def Φ₁ (c : Dev nD) : sProp 𝕄 :=
  iprop((∃ f, ((c : Thread nD τ).loc cc0_scratch0) ↦{fullShare} f) ∗ semVal (cell c .bar) 0
    ∗ (bigSep Finset.univ fun k : Fin 3 => semVal (cell c (.send k)) 0) ∗ bigSep Finset.univ fun k : Fin 3 => semVal (cell c (.recv k)) 0)

/-- The pipeline's data: the array staged in and the exchanged contents staged out, with the debts before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A device's own columns and the three bands its send cells return are its communication buffer whole; -/
theorem join_c (c : Dev nD) : iprop(cBand c (pos c) (xstg m ρ c) ∗ bigSep Finset.univ fun k : Fin 3 => sendPay m ρ k c)
    ⊢ (((c : Thread nD τ).loc cc0_scratch0) ↦{fullShare} xstg m ρ c : sProp 𝕄) :=
  Entails.of_eq (cBands c (xstg m ρ c)).symm

/-- its own rows and the three bands its receive cells hand over are the result buffer, at the exchanged contents. -/
theorem join_o (c : Dev nD) : iprop(oBand c (pos c) (outAt m ρ c) ∗ bigSep Finset.univ fun k : Fin 3 => recvPay m ρ k c)
    ⊢ (((c : Thread nD τ).loc cc0_stg1_0) ↦{fullShare} outAt m ρ c : sProp 𝕄) := by
  rw [oBands, bigSep_univ_equiv (Fin.revPerm : Fin 3 ≃ Fin 3) fun k => oBand c (pos (peer k c)) (outAt m ρ c)]
  exact BI.Entails.refl _

/-! ## One lemma per kind of step -/

/-- Step `k`'s signal takes its own debt off. -/
theorem owed_signal (c : Dev nD) (k : Fin 3) : left (owedSend c) 0 + left (owedSignal c) k.val
    = (left (owedSend c) 0 + left (owedSignal c) (k.val + 1)) + tallyAt (cell (peer k c) .bar) () 1 := by
  rw [add_assoc]; exact congrArg _ (left_step (owedSignal c) k)

/-- With the three signals paid, the three transfers are what is owed. -/
theorem owed_transfers (c : Dev nD) : left (owedSend c) 0 + left (owedSignal c) ((2 : Fin 3).val + 1) = left (owedSend c) 0 :=
  (congrArg (left (owedSend c) 0 + ·) (left_three (owedSignal c))).trans (add_zero _)

/-- With the three transfers started too, nothing is. -/
theorem owed_none (c : Dev nD) : left (owedSend c) ((2 : Fin 3).val + 1) = 0 := left_three (owedSend c)

omit [FloatOps F] in
/-- What a step's signal hands over, in the signaller's terms. -/
theorem paid_bar (k : Fin 3) (c : Dev nD) :
    (sched (F := F) m ρ).payload ((peer k c : Thread nD τ), .reg barS) 0 k = iprop(∃ f, oBand (F := F) c (pos (peer k c)) f) := by
  refine (payload_bar m ρ (peer k c) k).trans ?_
  unfold barPay; rw [peer_rev]

section Steps

variable (K : Dev nD × Cell → ℕ)

/-- Step `k`'s signal: the device hands its rows at the peer's position over to the peer and owes one unit less. -/
theorem step_signal {α : Type} {Q : α → sProp 𝕄} {kt : PUnit → Prog (TpuEff nD τ sig (Elt F) Λ₀ .tc) α}
    (c n : Dev nD) (k : Fin 3) (hn : n = peer k c) (W : Waits sig Unit) :
    iprop(records m ρ K ∗ owes (c : Thread nD τ) (left (owedSend c) 0 + left (owedSignal c) k.val) W ∗ dutyTok ER (cell (peer k c) .bar) 0 k ∗ ∃ f, oBand (F := F) c (pos (peer k c)) f)
      ⊢ iprop((owes (c : Thread nD τ) (left (owedSend c) 0 + left (owedSignal c) (k.val + 1)) W -∗ wp frame (wpE (defs₀ (F := F)) 𝒱₀ (c : Thread nD τ) none) Set.univ (kt ⟨⟩) Q)
          -∗ wp frame (wpE (defs₀ (F := F)) 𝒱₀ (c : Thread nD τ) none) Set.univ
              (.op (.semSignal (Dev.tc n : Thread nD τ) barS ((1#32 : BitVec 32).toInt)) kt) Q) := by
  subst hn
  iintro ⟨#HR, HO, Ht, Hf⟩
  ihave #HI := (record_at m ρ K (peer k c) .bar) $$ HR
  icases HI with ⟨#HI, #Hr⟩
  iapply (Rounds.wp_signal 𝒱₀ ER (sched m ρ) (c : Thread nD τ) none (dst := (peer k c : Thread nD τ)) (κ := K (peer k c, .bar))
      (d := k) (mem_bar m ρ (peer k c) k) ((amount_bar m ρ (peer k c) k).trans (by decide)) ()
      (left (owedSend c) 0 + left (owedSignal c) (k.val + 1)) (owed_signal c k))
  isplitr; · iexact HI
  isplitl [HO]; · iexact HO
  isplitl [Ht]; · iexact Ht
  isplitl [Hf]
  · rw [paid_bar]; iexact Hf
  iexact Hr

/-- The wait for the three peers' signals: a device receives, under each step, the rows that step writes. -/
theorem step_wait_bar {α : Type} {Q : α → sProp 𝕄} {kt : PUnit → Prog (TpuEff nD τ sig (Elt F) Λ₀ .tc) α}
    (c : Dev nD) (W : Waits sig Unit) :
    iprop(records m ρ K ∗ levAts L lv ∗ owes (c : Thread nD τ) (left (owedSend c) 0) W ∗ cred (tallyAt (cell c .bar) () 3) ∗ atPos ER (cell c .bar) 0 ∅ 0)
      ⊢ iprop(((∃ W', owes (c : Thread nD τ) (left (owedSend c) 0) W') ∗ atPos ER (cell c .bar) (0 + 1) ∅ 0
              ∗ (bigSep Finset.univ fun j : Fin 3 => iprop(∃ f, oBand (F := F) (peer j c) (pos c) f))
            -∗ wp frame (wpE (defs₀ (F := F)) 𝒱₀ (c : Thread nD τ) none) Set.univ (kt ⟨⟩) Q)
          -∗ wp frame (wpE (defs₀ (F := F)) 𝒱₀ (c : Thread nD τ) none) Set.univ (.op (.semWait barS ((3#32 : BitVec 32).toInt)) kt) Q) := by
  iintro ⟨#HR, #Hlev, HO, Hc, Hat⟩ Hk
  ihave #HI := (record_at m ρ K c .bar) $$ HR
  icases HI with ⟨#HI, -⟩
  iapply (Rounds.wp_wait_rest_token 𝒱₀ ER (sched m ρ) (c : Thread nD τ) none (κ := K (c, .bar))
      (wpE_semWait_eq 𝒱₀ (c : Thread nD τ) none Set.univ) (Set.mem_univ _) () (O := left (owedSend c) 0) (W := W) (R := 0) (m := 0) (T := ∅)
      ((by decide : 0 + (3#32 : BitVec 32).toNat = 3).trans (expect_bar m ρ c).symm)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  iapply Hk
  isplitl [HO]; · iexists _; iexact HO
  isplitl [Hat]; · iexact Hat
  iapply (Entails.of_eq (rest_bar m ρ c)); iexact Hpay

/-- Step `k`'s transfer: the columns at the peer's position go into the peer's rows at the sender's position. The device
    owes one transfer less and may claim the send. -/
theorem step_send {α : Type} {Q : α → sProp 𝕄} {kt : PUnit → Prog (TpuEff nD τ sig (Elt F) Λ₀ .tc) α}
    (c n : Dev nD) (k : Fin 3) (hn : n = peer k c) (s r : DmaSem sig) (hs : s = sendS k) (hr : r = recvS k)
    (src dst : Memref sig .tc .vmem S512x512 .bf16) (hsrc : src = cS k c) (hdst : dst = oS c)
    {hsc : (dst : Memref sig (Dev.tc n : Thread nD τ).2.kind .vmem S512x512 .bf16).view.ref.isScScratch = false}
    {hw : src.view.WordExact} {hw' : dst.view.WordExact}
    {hsem : DmaTarget.Typed .vmem (.dma r) (.remote (Dev.tc n : Thread nD τ) (dst : Memref sig (Dev.tc n : Thread nD τ).2.kind .vmem S512x512 .bf16) (.dma s) hsc)}
    (W : Waits sig Unit) :
    iprop(records m ρ K ∗ owes (c : Thread nD τ) (left (owedSend c) k.val) W ∗ cBand c (pos (peer k c)) (xstg m ρ c)
        ∗ (∃ f, oBand (F := F) (peer k c) (pos c) f) ∗ dutyTok ER (cell c (.send k)) 0 0 ∗ dutyTok ER (cell (peer k c) (.recv k)) 0 0)
      ⊢ iprop(((cred (tallyAt (cell c (.send k)) () N) ∗ owes (c : Thread nD τ) (left (owedSend c) (k.val + 1)) W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma src (.remote (Dev.tc n : Thread nD τ) dst (.dma s) hsc) (.dma r) hw hw' hsem) kt) Q) := by
  subst hn hs hr hsrc hdst
  iintro ⟨#HR, HO, Hsrc, ⟨%f, Hdst⟩, Hts, Htr⟩
  ihave #HIs := (record_at m ρ K c (.send k)) $$ HR
  icases HIs with ⟨#HIs, #Hrs⟩
  ihave #HIr := (record_at m ρ K (peer k c) (.recv k)) $$ HR
  icases HIr with ⟨#HIr, #Hrr⟩
  iapply (Rounds.wp_send_pointsTo 𝒱₀ ER (sched m ρ) (c : Thread nD τ) none (c' := (peer k c : Thread nD τ)) (src := cS k c) (dst := oS c)
    (sS := .dma (sendS k)) (sem := .dma (recvS k)) (κ₁ := K (c, .send k)) (κ₂ := K (peer k c, .recv k))
    (q := fullShare) (fs := xstg m ρ c) (fd := f) (r₁ := 0) (r₂ := 0) (d₁ := 0) (d₂ := 0)
    (mem_send m ρ c k) (mem_recv m ρ (peer k c) k)
    () () N rfl (amount_send m ρ c k 0) (amount_recv m ρ (peer k c) k 0) (left (owedSend c) (k.val + 1)) (left_step (owedSend c) k) (W := W)
    (sent m ρ k c) (landed_send m ρ k c f))
  isplitr; · iexact HIs
  isplitr; · iexact HIr
  isplitl [Hsrc]; · rw [cS_set]; unfold cBand; iexact Hsrc
  isplitl [Hdst]; · rw [oS_set]; unfold oBand; iexact Hdst
  isplitl [HO]; · iexact HO
  isplitl [Hts]; · iexact Hts
  isplitr; · iexact Hrs
  isplitl [Htr]; · iexact Htr
  iexact Hrr

/-- A wait for a whole transfer on one of the device's own cells, nothing being owed any more: it gives the cell's
    payload, and the cell closes with its counter at zero. -/
theorem step_wait {α : Type} {Q : α → sProp 𝕄} {kt : PUnit → Prog (TpuEff nD τ sig (Elt F) Λ₀ .tc) α}
    (c : Dev nD) (x : Cell) (q : DmaSem sig) (hq : semOf x = .dma q) (src dst : Memref sig .tc .vmem S512x512 .bf16)
    (hd : dst.view.dmaCredit = N) (hx : (sched (F := F) m ρ).expect (cell c x) 0 = N) (P : sProp 𝕄)
    (hP : bigSep ((sched (F := F) m ρ).duties (cell c x) 0 \ ∅) (fun d => (sched (F := F) m ρ).payload (cell c x) 0 d) = P)
    {hw : src.view.WordExact} {hw' : dst.view.WordExact} :
    iprop(records m ρ K ∗ (∃ W, owes (c : Thread nD τ) 0 W) ∗ cred (tallyAt (cell c x) () N) ∗ atPos ER (cell c x) 0 ∅ 0)
      ⊢ iprop(((∃ W, owes (c : Thread nD τ) 0 W) ∗ semVal (cell c x) 0 ∗ P
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src dst hw hw') kt) Q) := by
  subst hP
  iintro ⟨#HR, ⟨%W, HO⟩, Hc, Hat⟩ Hk
  ihave #HI := (record_at m ρ K c x) $$ HR
  icases HI with ⟨#HI, -⟩
  unfold cell at hx ⊢
  rw [hq] at hx ⊢
  rw [← hd]
  iapply (Rounds.wp_wait_rest_token 𝒱₀ ER (sched m ρ) (c : Thread nD τ) none (κ := K (c, x))
      (wpE_waitDma2_eq 𝒱₀ (c : Thread nD τ) none Set.univ) (Set.mem_univ _) () (O := 0) (W := W) (R := 0) (m := 0) (T := ∅)
      (by rw [Nat.zero_add, hx, hd])) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (sched m ρ) (Set.mem_univ (K (c, x))) (fun h => h) (R := 0 + 1) (duties_later m ρ _)) $$ [Hat] with Hz
  · isplitr; · iexact HI
    iexact Hat
  iapply Hk
  isplitl [HO]; · iexists _; iexact HO
  isplitl [Hz]; · iexact Hz
  iexact Hpay

/-- The rectangles of the device's own square, among its columns and among its rows. -/
abbrev rC (c : Dev nD) : Rect S512x2048 := Rect.unit (s := S512x2048) (k0_off3 c) S512x512.size (k0_off3_inb c)
abbrev rR (c : Dev nD) : Rect S2048x512 := Rect.unit (s := S2048x512) (k0_off4 c) S512x512.size (k0_off4_inb c)

/-- The device's own square, loaded from its columns and stored to its rows. -/
theorem step_own {α : Type} {Q : α → sProp 𝕄} {kt : PUnit → Prog (TpuEff nD τ sig (Elt F) Λ₀ .tc) α}
    (c : Dev nD) (f : Buf (Elt F) ((c : Thread nD τ).loc cc0_stg1_0)) {hl : cM.view.LoadsAt (rC c).toLoadRect} {hl' : oM.view.LoadsAt (rR c).toLoadRect}
    {hx : (oM.access (rR c)).Stores Finset.univ} {hm} :
    iprop(cBand c (pos c) (xstg m ρ c) ∗ oBand c (pos c) f)
      ⊢ iprop((cBand c (pos c) (xstg m ρ c) ∗ oBand c (pos c) (outAt m ρ c)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.load cM (rC c).toLoadRect hl) fun v => .op (.load oM (rR c).toLoadRect hl') fun _ =>
                .op (.store oM (rR c) v Finset.univ hx hm) kt) Q) := by
  unfold cBand
  iintro ⟨Hc, Ho⟩ Hk
  iapply (wp_load_rect 𝒱₀ (c : Thread nD τ) none Set.univ (m := cM) (r := rC c) (S := colBand (pos c)) (subset_of_eq (cols_set _ _ _ (off3_eq c)))) $$ Hc; iintro Hc
  ihave Ho := (show oBand c (pos c) f ⊢ (((c : Thread nD τ).loc cc0_stg1_0) ↦[rowBand (pos c)]{fullShare} f : sProp 𝕄) from BI.Entails.refl _) $$ Ho
  iapply (wp_load_rect 𝒱₀ (c : Thread nD τ) none Set.univ (m := oM) (r := rR c) (S := rowBand (pos c)) (subset_of_eq (rows_set _ _ _ (off4_eq c)))) $$ Ho; iintro Ho
  iapply (wp_store 𝒱₀ (c : Thread nD τ) none Set.univ (m := oM) (r := rR c) (S := rowBand (pos c)) (Mk := Finset.univ)
    (by rw [View.setOn_univ]; exact subset_of_eq (rows_set _ _ _ (off4_eq c)))) $$ Ho; iintro Ho
  iapply Hk
  isplitl [Hc]; · iexact Hc
  iapply (landed_own m ρ c f); iexact Ho

end Steps

/-! ## The body -/

section Body

abbrev t₀ : Fin cfg0.N := t0_0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The staging buffer of window `b` on device `c`, at contents `X`. -/
abbrev staged (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem hz : (![0, 0] : Fin 2 → Nat) = fun _ => 0 := funext fun a => by fin_cases a <;> rfl

/-- The rectangle of a whole block of rows. -/
abbrev rW : Rect S512x2048 := Rect.unit (s := S512x2048) ![0, 0] S512x2048.size inb_S512x2048_S512x2048_0_0

omit [FloatOps F] in
theorem read_x (f : (cc0_stg0_0 : Ref sig .tc).ty.Contents (Elt F)) : (xM : Memref sig .tc .vmem S512x2048 .bf16).view.readAt (Elt F) rW.toLoadRect f = f :=
  Memref.readAt_unit_zero (Elt F) cc0_stg0_0 hz _ f
omit [FloatOps F] in
theorem write_c (f w : (cc0_scratch0 : Ref sig .tc).ty.Contents (Elt F)) :
    ((cM : Memref sig .tc .vmem S512x2048 .bf16).access rW : View sig .tc _ _ _).write (Elt F) f w Finset.univ = w :=
  Memref.write_access_unit_zero_univ (Elt F) cc0_scratch0 hz _ f w
/-- The block is stored as it was loaded. -/
theorem pay_eq (v : Vec F S512x2048 .bf16) : k0_pay1 v = v := by
  unfold k0_pay1; dsimp only; rw [shapeCast_self, shapeCast_self]

def bodyPre (c : Dev nD) : sProp 𝕄 :=
  iprop(Φ₀ m ρ c ∗ (dats m ρ 0 c).owesAt () t₀.castSucc
    ∗ (∃ d, staged c cc0_stg0_0 ((dats m ρ 0 c).before (0 : Fin 2) t₀ d))
    ∗ (∃ d, staged c cc0_stg1_0 ((dats m ρ 0 c).before (1 : Fin 2) t₀ d)))

def bodyPost (c : Dev nD) : sProp 𝕄 :=
  iprop(Φ₁ c ∗ (dats m ρ 0 c).owesAt () t₀.succ ∗ staged c cc0_stg0_0 (xstg m ρ c) ∗ staged c cc0_stg1_0 (outAt m ρ c))

set_option maxHeartbeats 1600000 in
/-- The body, effect by effect in program order. -/
theorem sound_body (c : Dev nD) :
    bodyPre m ρ c
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) (fun _ => bodyPost m ρ c) := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre Φ₀ start share credits
  simp only [bigSep_steps]
  iintro ⟨⟨⟨⟨%K, #HR, HaB, HaS, HaV, HtB, HtV, HtS⟩, ⟨HcB, HcV⟩, #Hlev⟩, ⟨%fc, Hc⟩⟩, Ho, ⟨%d0, %g0, %hg0, Hx⟩, ⟨%d1, %g1, %hg1, Hout⟩⟩
  have hx : g0 = xstg m ρ c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  ihave Hout := (Entails.of_eq ((oBands c g1).trans (by rw [bigSep_steps]))) $$ Hout
  icases HaS with ⟨HaS0, HaS1, HaS2⟩
  icases HaV with ⟨HaV0, HaV1, HaV2⟩
  icases HtB with ⟨HtB0, HtB1, HtB2⟩
  icases HtV with ⟨HtV0, HtV1, HtV2⟩
  icases HtS with ⟨HtS0, HtS1, HtS2⟩
  icases HcV with ⟨HcV0, HcV1, HcV2⟩
  icases Hout with ⟨Hown, Ho0, Ho1, Ho2⟩
  -- the three signals, each handing a peer the rows it will write
  iapply (step_signal m ρ K c _ 0 (dev1_eq c) W) $$ [HO HtB0 Ho0]
  · isplitr; · iexact HR
    isplitl [HO]; · iexact HO
    isplitl [HtB0]; · iexact HtB0
    iexists g1; iexact Ho0
  iintro HO
  iapply (step_signal m ρ K c _ 1 (dev2_eq c) W) $$ [HO HtB1 Ho1]
  · isplitr; · iexact HR
    isplitl [HO]; · iexact HO
    isplitl [HtB1]; · iexact HtB1
    iexists g1; iexact Ho1
  iintro HO
  iapply (step_signal m ρ K c _ 2 (dev3_eq c) W) $$ [HO HtB2 Ho2]
  · isplitr; · iexact HR
    isplitl [HO]; · iexact HO
    isplitl [HtB2]; · iexact HtB2
    iexists g1; iexact Ho2
  iintro HO
  ihave HO := (Entails.of_eq (congrArg (fun O => owes (c : Thread nD τ) O W) (owed_transfers c))) $$ HO
  -- the block goes into the communication buffer
  iapply (wp_load 𝒱₀ (c : Thread nD τ) none Set.univ (m := xM) (Finset.subset_univ _)) $$ Hx; iintro Hx
  rw [read_x]
  iapply (wp_load 𝒱₀ (c : Thread nD τ) none Set.univ (m := cM) (Finset.subset_univ _)) $$ Hc; iintro Hc
  iapply (wp_store 𝒱₀ (c : Thread nD τ) none Set.univ (m := cM) (r := rW) (Mk := Finset.univ) (Finset.subset_univ _)) $$ Hc; iintro Hc
  rw [write_c, pay_eq]
  -- the peers are ready
  iapply (step_wait_bar m ρ K c W) $$ [HO HcB HaB]
  · isplitr; · iexact HR
    isplitr; · iexact Hlev
    isplitl [HO]; · iexact HO
    isplitl [HcB] <;> iassumption
  iintro ⟨⟨%W', HO⟩, HaB, Hrows⟩
  ihave Hrows := (Entails.of_eq (bigSep_steps _)) $$ Hrows
  icases Hrows with ⟨Hr0, Hr1, Hr2⟩
  ihave Hc := (Entails.of_eq ((cBands c _).trans (by rw [bigSep_steps]))) $$ Hc
  icases Hc with ⟨Hcown, Hc0, Hc1, Hc2⟩
  -- the three transfers
  iapply (step_send m ρ K c _ 0 (dev4_eq c) _ _ send0_eq recv0_eq _ _ rfl rfl W') $$ [HO Hc0 Hr0 HtS0 HtV0]
  · isplitr; · iexact HR
    isplitl [HO]; · iexact HO
    isplitl [Hc0]; · iexact Hc0
    isplitl [Hr0]; · iexact Hr0
    isplitl [HtS0] <;> iassumption
  iintro ⟨HcS0, HO⟩
  iapply (step_send m ρ K c _ 1 (dev5_eq c) _ _ send1_eq recv1_eq _ _ rfl rfl W') $$ [HO Hc1 Hr1 HtS1 HtV1]
  · isplitr; · iexact HR
    isplitl [HO]; · iexact HO
    isplitl [Hc1]; · iexact Hc1
    isplitl [Hr1]; · iexact Hr1
    isplitl [HtS1] <;> iassumption
  iintro ⟨HcS1, HO⟩
  iapply (step_send m ρ K c _ 2 (dev6_eq c) _ _ send2_eq recv2_eq _ _ rfl rfl W') $$ [HO Hc2 Hr2 HtS2 HtV2]
  · isplitr; · iexact HR
    isplitl [HO]; · iexact HO
    isplitl [Hc2]; · iexact Hc2
    isplitl [Hr2]; · iexact Hr2
    isplitl [HtS2] <;> iassumption
  iintro ⟨HcS2, HO⟩
  ihave HO := (Entails.of_eq (congrArg (fun O => owes (c : Thread nD τ) O W') (owed_none c))) $$ HO
  -- the device's own square
  iapply (step_own m ρ c g1) $$ [Hcown Hown]
  · isplitl [Hcown] <;> iassumption
  iintro ⟨Hcown, Hown⟩
  -- the barrier cell closes
  ihave #HI := (record_at m ρ K c .bar) $$ HR
  icases HI with ⟨#HI, -⟩
  imod (Rounds.cell_close ER (sched m ρ) (Set.mem_univ (K (c, .bar))) (fun h => h) (R := 0 + 1) (duties_later m ρ _)) $$ [HaB] with HzB
  · isplitr; · iexact HI
    iexact HaB
  -- the waits
  ihave HO := (show owes (c : Thread nD τ) 0 W' ⊢ (iprop(∃ W, owes (c : Thread nD τ) 0 W) : sProp 𝕄) from by iintro H; iexists W'; iexact H) $$ HO
  iapply (step_wait m ρ K c (.send 0) _ (congrArg SemLoc.dma send0_eq.symm) _ _ (credit_c 0 c) (expect_send m ρ c 0) _ (rest_send m ρ c 0)) $$ [HO HcS0 HaS0]
  · isplitr; · iexact HR
    isplitl [HO]; · iexact HO
    isplitl [HcS0] <;> iassumption
  iintro ⟨HO, HzS0, Hc0⟩
  iapply (step_wait m ρ K c (.recv 0) _ (congrArg SemLoc.dma recv0_eq.symm) _ _ (credit_o c) (expect_recv m ρ c 0) _ (rest_recv m ρ c 0)) $$ [HO HcV0 HaV0]
  · isplitr; · iexact HR
    isplitl [HO]; · iexact HO
    isplitl [HcV0] <;> iassumption
  iintro ⟨HO, HzV0, Ho0⟩
  iapply (step_wait m ρ K c (.send 1) _ (congrArg SemLoc.dma send1_eq.symm) _ _ (credit_c 1 c) (expect_send m ρ c 1) _ (rest_send m ρ c 1)) $$ [HO HcS1 HaS1]
  · isplitr; · iexact HR
    isplitl [HO]; · iexact HO
    isplitl [HcS1] <;> iassumption
  iintro ⟨HO, HzS1, Hc1⟩
  iapply (step_wait m ρ K c (.recv 1) _ (congrArg SemLoc.dma recv1_eq.symm) _ _ (credit_o c) (expect_recv m ρ c 1) _ (rest_recv m ρ c 1)) $$ [HO HcV1 HaV1]
  · isplitr; · iexact HR
    isplitl [HO]; · iexact HO
    isplitl [HcV1] <;> iassumption
  iintro ⟨HO, HzV1, Ho1⟩
  iapply (step_wait m ρ K c (.send 2) _ (congrArg SemLoc.dma send2_eq.symm) _ _ (credit_c 2 c) (expect_send m ρ c 2) _ (rest_send m ρ c 2)) $$ [HO HcS2 HaS2]
  · isplitr; · iexact HR
    isplitl [HO]; · iexact HO
    isplitl [HcS2] <;> iassumption
  iintro ⟨HO, HzS2, Hc2⟩
  iapply (step_wait m ρ K c (.recv 2) _ (congrArg SemLoc.dma recv2_eq.symm) _ _ (credit_o c) (expect_recv m ρ c 2) _ (rest_recv m ρ c 2)) $$ [HO HcV2 HaV2]
  · isplitr; · iexact HR
    isplitl [HO]; · iexact HO
    isplitl [HcV2] <;> iassumption
  iintro ⟨HO, HzV2, Ho2⟩
  rw [wp_ret]; imodintro
  unfold bodyPost Φ₁ Dat.owesAt Pipeline.owesWithin
  rw [show (dats m ρ 0 c).owed t₀.succ = 0 from rfl]
  isplitl [Hcown Hc0 Hc1 Hc2 HzB HzS0 HzS1 HzS2 HzV0 HzV1 HzV2]
  · isplitl [Hcown Hc0 Hc1 Hc2]
    · iexists (xstg m ρ c)
      iapply (join_c m ρ c)
      isplitl [Hcown]; · iexact Hcown
      rw [bigSep_steps]
      isplitl [Hc0]; · iexact Hc0
      isplitl [Hc1] <;> iassumption
    isplitl [HzB]; · iexact HzB
    rw [bigSep_steps, bigSep_steps]
    isplitl [HzS0 HzS1 HzS2]
    · isplitl [HzS0]; · iexact HzS0
      isplitl [HzS1] <;> iassumption
    isplitl [HzV0]; · iexact HzV0
    isplitl [HzV1] <;> iassumption
  isplitl [HO]
  · icases HO with ⟨%W'', HO⟩
    iexists W''
    isplitr; · ipureintro; exact fun _ _ => Or.inl trivial
    iexact HO
  isplitl [Hx]
  · iexists _; isplitr; · (ipureintro; rfl)
    iexact Hx
  iexists _; isplitr; · (ipureintro; rfl)
  iapply (join_o m ρ c)
  isplitl [Hown]; · iexact Hown
  rw [bigSep_steps]
  isplitl [Ho0]; · iexact Ho0
  isplitl [Ho1] <;> iassumption

/-- The library's body obligation on device `c`. -/
theorem body_obligation (c : Dev nD) : BodyObligation (dats (F := F) m ρ 0 c) (defs₀ (F := F)) 𝒱₀ () Set.univ := fun t => by
  rw [fin_N0 t, bigSep_W0, bigSep_W0]
  simp only [owns_whole_eq]
  exact sound_body m ρ c

end Body

end Cert.KernelIdeal.Run

end
-- ==== Proof.KernelIdeal.Launch.lean ====
/-
The launch of the all-to-all kernel: what its start deals every device, and the run of the whole program from any
memory, with what it leaves in the two arrays.
-/
module

public import proofs.«01_k».proof.Proof.KernelIdeal.Body
public import Idealize.ShloMosaic.Lib.Pipeline.Launch
public import Idealize.ShloMosaic.Lib.Pipeline.CollectiveSegs

@[expose] public section

noncomputable section

namespace Cert.KernelIdeal.Run

open Cert.KernelIdeal Cert.KernelIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kernel's own six semaphores: send and receive per step. -/
def osem : Fin 3 ⊕ Fin 3 → SemLoc sig := Sum.elim (fun k => semOf (.send k)) (fun k => semOf (.recv k))

theorem ownSemFacts : Pipeline.OwnSemFacts cfg0.spec osem := by decide

omit [FloatOps F] in
theorem bigSep_cells (Φ : Cell → sProp 𝕄) : bigSep Finset.univ Φ
    = iprop(Φ .bar ∗ (bigSep Finset.univ fun k : Fin 3 => Φ (.send k)) ∗ bigSep Finset.univ fun k : Fin 3 => Φ (.recv k)) := by
  rw [bigSep_univ_eq_bigSepL [.bar, .send 0, .send 1, .send 2, .recv 0, .recv 1, .recv 2] (by decide) (by decide) Φ, bigSep_steps, bigSep_steps]
  change iprop(Φ .bar ∗ Φ (.send 0) ∗ Φ (.send 1) ∗ Φ (.send 2) ∗ Φ (.recv 0) ∗ Φ (.recv 1) ∗ Φ (.recv 2)) = _
  have assoc (A B C : sProp 𝕄) : iprop((A ∗ B) ∗ C) = iprop(A ∗ B ∗ C) := BI.Entails.antisymm BI.sep_assoc BI.sep_assoc'
  rw [assoc, assoc]

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun k : Fin 3 => semVal (cell c (.send k)) 0) ∗ bigSep Finset.univ fun k : Fin 3 => semVal (cell c (.recv k)) 0) := by
  unfold Pipeline.ownSems0; rw [bigSep_univ_sum]; rfl

omit [FloatOps F] in
/-- The barrier semaphore is the only one outside the kernel's scope. -/
theorem unscopedSems0_eq (c : Dev nD) : (unscopedSems0 c : sProp 𝕄) = semVal (cell c .bar) 0 := by
  unfold unscopedSems0; rw [bigSep_eq_bigSepL_of_eq [SemLoc.reg barS] (by decide) (by decide)]; rfl

/-! ## The launch element, and what it deals -/

/-- All cells, a device's seven for every device. -/
def allCells : Finset (GSem nD τ sig) :=
  Finset.univ.map ⟨fun p : Dev nD × Cell => cell p.1 p.2, fun _ _ h => Prod.ext (cell_inj h).1 (cell_inj h).2⟩

/-- A device's own duties: three kinds, three steps each. -/
def due : Fin 3 × Fin 3 → Cell × Fin 3
  | (0, k) => (.bar, k)
  | (1, k) => (.send k, 0)
  | (2, k) => (.recv k, 0)

theorem due_injective : Function.Injective due := by decide

def tokOf (p : Dev nD × Fin 3 × Fin 3) : GSem nD τ sig × ℕ × Fin 3 := (cell p.1 (due p.2).1, 0, (due p.2).2)

theorem tokOf_injective : Function.Injective tokOf := fun p q h => by
  have hc := cell_inj (congrArg Prod.fst h)
  exact Prod.ext hc.1 (due_injective (Prod.ext hc.2 (congrArg (fun x : GSem nD τ sig × ℕ × Fin 3 => x.2.2) h)))

def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The tokens of the duties of device `c`'s own cells. -/
def toks (c : Dev nD) : sProp 𝕄 :=
  iprop((bigSep Finset.univ fun k : Fin 3 => dutyTok ER (cell c .bar) 0 k)
    ∗ (bigSep Finset.univ fun k : Fin 3 => dutyTok ER (cell c (.send k)) 0 0)
    ∗ (bigSep Finset.univ fun k : Fin 3 => dutyTok ER (cell c (.recv k)) 0 0))

/-- What the launch element deals device `c`: of each of its cells the state, the position and the record that round 0
    is reached, and the tokens. -/
def G (c : Dev nD) : sProp 𝕄 :=
  iprop((bigSep Finset.univ fun x : Cell => roundState ER (sched m ρ) (cell c x) 0)
    ∗ (bigSep Finset.univ fun x : Cell => atPos ER (cell c x) 0 ∅ 0)
    ∗ (bigSep Finset.univ fun x : Cell => reached ER (cell c x) 0) ∗ toks c)

/-- What the devices make of it together. -/
def G' (c : Dev nD) : sProp 𝕄 := iprop(∃ K, records m ρ K ∗ share c)

omit [FloatOps F] in
theorem bigSep_allCells (Φ : GSem nD τ sig → sProp 𝕄) :
    bigSep allCells Φ = bigSep Finset.univ fun c : Dev nD => bigSep Finset.univ fun x : Cell => Φ (cell c x) := by
  unfold allCells; rw [bigSep_map, bigSep_univ_prod]; rfl

omit [FloatOps F] in
theorem bigSep_allToks : bigSep allToks (fun x => (dutyTok ER x.1 x.2.1 x.2.2 : sProp 𝕄)) = bigSep Finset.univ fun c : Dev nD => toks c := by
  unfold allToks; rw [bigSep_map, bigSep_univ_prod]
  exact bigSep_congr fun c _ => by rw [bigSep_univ_prod, bigSep_steps]; rfl

omit [FloatOps F] in
theorem fund_all : BI.own (ER (initOf allCells allToks)) ⊢ (|==> bigSep Finset.univ (G m ρ) : sProp 𝕄) := by
  have h := Rounds.fund (ER (F := F)) (sched m ρ) allCells allToks
  rw [bigSep_allCells, bigSep_allCells, bigSep_allCells, bigSep_allToks] at h
  unfold G; simp only [bigSep_sep']
  iintro HX
  imod h $$ HX with ⟨Hst, Hr, Hat, Htok⟩
  imodintro
  isplitl [Hst]; · iexact Hst
  isplitl [Hat]; · iexact Hat
  isplitl [Hr] <;> iassumption

omit [FloatOps F] in
/-- A device opens the invariants of its seven cells. -/
theorem open_cells (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x : Cell => iprop(∃ κ : ℕ, cellInv ER (sched m ρ) κ (cell c x)))
          ∗ (bigSep Finset.univ fun x : Cell => reached ER (cell c x) 0)
          ∗ (bigSep Finset.univ fun x : Cell => atPos ER (cell c x) 0 ∅ 0) ∗ toks c) := by
  have hv : iprop((bigSep Finset.univ fun x : Cell => semVal (cell c x) 0) ∗ bigSep Finset.univ fun x : Cell => roundState ER (sched m ρ) (cell c x) 0)
      ⊢ (|={Set.univ}=> bigSep Finset.univ fun x : Cell => iprop(∃ κ : ℕ, cellInv ER (sched m ρ) κ (cell c x)) : sProp 𝕄) := by
    rw [← bigSep_sep']
    exact (bigSep_mono fun x _ => (Rounds.body_intro ER (sched m ρ) (cell c x)).trans inv_alloc).trans (bigSep_fupd _ _)
  rw [ownSems0_eq, unscopedSems0_eq]
  unfold G
  iintro ⟨⟨HS, HV⟩, HB, Hst, Hat, Hr, Htok⟩
  imod hv $$ [HS HV HB Hst] with HI
  · isplitr [Hst]
    · rw [bigSep_cells]
      isplitl [HB]; · iexact HB
      isplitl [HS] <;> iassumption
    iexact Hst
  imodintro
  isplitl [HI]; · iexact HI
  isplitl [Hr]; · iexact Hr
  isplitl [Hat] <;> iassumption

omit [FloatOps F] in
/-- The tokens dealt to the devices that pay the duties: a barrier cell's and a receive cell's token of step `k` to the
    device whose step `k` addresses the cell's, a send cell's to its own device. -/
theorem deal_toks :
    (bigSep Finset.univ fun c : Dev nD => iprop((bigSep Finset.univ fun x : Cell => atPos ER (cell c x) 0 ∅ 0) ∗ toks c) : sProp 𝕄)
      ⊢ bigSep Finset.univ fun c : Dev nD => share c := by
  unfold toks share
  simp only [bigSep_cells, bigSep_sep']
  rw [deal fun (c : Dev nD) k => (dutyTok ER (cell c .bar) 0 k : sProp 𝕄), deal fun (c : Dev nD) k => (dutyTok ER (cell c (.recv k)) 0 0 : sProp 𝕄)]
  iintro ⟨⟨HaB, HaS, HaR⟩, HtB, HtS, HtR⟩
  isplitl [HaB]; · iexact HaB
  isplitl [HaS]; · iexact HaS
  isplitl [HaR]; · iexact HaR
  isplitl [HtB]; · iexact HtB
  isplitl [HtR] <;> iassumption

omit [FloatOps F] in
/-- All devices' invariants and records are shared with every device. -/
theorem regroup :
    (bigSep Finset.univ fun c : Dev nD => iprop((bigSep Finset.univ fun x : Cell => iprop(∃ κ : ℕ, cellInv ER (sched m ρ) κ (cell c x)))
          ∗ (bigSep Finset.univ fun x : Cell => reached ER (cell c x) 0)
          ∗ (bigSep Finset.univ fun x : Cell => atPos ER (cell c x) 0 ∅ 0) ∗ toks c) : sProp 𝕄)
      ⊢ bigSep Finset.univ (G' m ρ) := by
  rw [bigSep_sep', bigSep_sep', ← bigSep_univ_prod (α := Dev nD) (β := Cell) fun p => iprop(∃ κ : ℕ, cellInv ER (sched m ρ) κ (cell p.1 p.2)),
    ← bigSep_univ_prod (α := Dev nD) (β := Cell) fun p => (reached ER (cell p.1 p.2) 0 : sProp 𝕄)]
  iintro ⟨HI, HR, Hrest⟩
  ihave HK := (BI.bigSep_exists_pi Finset.univ fun (p : Dev nD × Cell) (κ : ℕ) => (cellInv ER (sched m ρ) κ (cell p.1 p.2) : sProp 𝕄)) $$ HI
  icases HK with ⟨%K, HI⟩
  ihave Hs := (deal_toks (F := F)) $$ Hrest
  have hrec : iprop((bigSep Finset.univ fun p : Dev nD × Cell => cellInv ER (sched m ρ) (K p) (cell p.1 p.2))
      ∗ bigSep Finset.univ fun p : Dev nD × Cell => reached ER (cell p.1 p.2) 0) ⊢ records m ρ K :=
    Entails.of_eq (bigSep_sep' _ _ _).symm
  have hex (c : Dev nD) : iprop(records m ρ K ∗ share c) ⊢ G' m ρ c := by unfold G'; iintro H; iexists K; iexact H
  have hall : iprop(records m ρ K ∗ bigSep Finset.univ fun c : Dev nD => share c) ⊢ bigSep Finset.univ (G' m ρ) := by
    refine (sep_mono_left (BI.bigSep_of_persistent (Finset.univ : Finset (Dev nD)) (records m ρ K))).trans ?_
    rw [← bigSep_sep']
    exact bigSep_mono fun c _ => hex c
  iapply hall
  isplitr [Hs]
  · iapply hrec; isplitl [HI] <;> iassumption
  iexact Hs

omit [FloatOps F] in
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => open_cells m ρ c).trans (bigSep_fupd _ _)).trans (BI.fupd_mono (regroup m ρ))

/-! ## The launch credit -/

omit [FloatOps F] in
theorem cell_eq_iff {c c' : Dev nD} {x x' : Cell} : (cell c x = cell c' x') ↔ (c = c' ∧ x = x') :=
  ⟨cell_inj, fun h => by rw [h.1, h.2]⟩

theorem left_apply (f : Fin 3 → CellTallies nD τ sig Unit) (g : GSem nD τ sig) : left f 0 g () = ∑ k, f k g () := by
  rw [left_zero, Fin.sum_univ_three, Fin.sum_univ_three, Pi.add_apply, Finsupp.add_apply, Pi.add_apply, Finsupp.add_apply]

/-- A barrier cell is owed a unit by each device one of whose steps addresses it, -/
theorem owed_bar (d c : Dev nD) : O₀ d (cell c .bar) () = ∑ k : Fin 3, if peer k d = c then 1 else 0 := by
  have h0 (k : Fin 3) : owedSend d k (cell c .bar) () = 0 := by
    unfold owedSend; rw [tallyAt_apply, if_neg fun h => by cases (cell_inj h.1).2]
  have h1 (k : Fin 3) : owedSignal d k (cell c .bar) () = if peer k d = c then 1 else 0 := by
    unfold owedSignal; rw [tallyAt_apply]
    exact if_congr ⟨fun h => (cell_inj h.1).1.symm, fun h => ⟨by rw [h], rfl⟩⟩ rfl rfl
  unfold O₀
  rw [Pi.add_apply, Finsupp.add_apply, left_apply, left_apply, Finset.sum_congr rfl fun k _ => h0 k, Finset.sum_const_zero, Nat.zero_add]
  exact Finset.sum_congr rfl fun k _ => h1 k

/-- a receive cell of step `k` a transfer by the device whose step `k` addresses it. -/
theorem owed_recv (d c : Dev nD) (k : Fin 3) : O₀ d (cell c (.recv k)) () = if peer k d = c then N else 0 := by
  have h0 (j : Fin 3) : owedSignal d j (cell c (.recv k)) () = 0 := by
    unfold owedSignal; rw [tallyAt_apply, if_neg fun h => by cases (cell_inj h.1).2]
  have h1 (j : Fin 3) : owedSend d j (cell c (.recv k)) () = if j = k then (if peer k d = c then N else 0) else 0 := by
    unfold owedSend; rw [tallyAt_apply]
    by_cases hj : j = k
    · subst hj; rw [if_pos rfl]
      exact if_congr ⟨fun h => (cell_inj h.1).1.symm, fun h => ⟨by rw [h], rfl⟩⟩ rfl rfl
    · rw [if_neg hj, if_neg fun h => hj (by cases (cell_inj h.1).2; rfl)]
  unfold O₀
  rw [Pi.add_apply, Finsupp.add_apply, left_apply, left_apply, Finset.sum_congr rfl fun j _ => h0 j, Finset.sum_const_zero, Nat.add_zero,
    Finset.sum_congr rfl fun j _ => h1 j, Finset.sum_ite_eq' Finset.univ k fun _ => _, if_pos (Finset.mem_univ k)]

theorem launched (g : GSem nD τ sig) (n : ℕ) (h : ∑ d, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same]; exact h

theorem launched_bar (c : Dev nD) : ∑ d, O₀ d (cell c .bar) () = 3 := by
  rw [Finset.sum_congr rfl fun d _ => owed_bar d c, Finset.sum_comm, Finset.sum_congr rfl fun k _ => addressed k c 1]; rfl

theorem launched_recv (c : Dev nD) (k : Fin 3) : ∑ d, O₀ d (cell c (.recv k)) () = N := by
  rw [Finset.sum_congr rfl fun d _ => owed_recv d c k]; exact addressed k c N

omit [FloatOps F] in
theorem creds (c : Dev nD) : (Pipeline.launchCred O₀ c : sProp 𝕄) ⊢ credits c := by
  have hcells : (Pipeline.launchCred O₀ c : sProp 𝕄)
      ⊢ bigSep Finset.univ fun x : Cell => cred (tallyOn (cell c x) (launchCredit (Pipeline.owing O₀) 0 (cell c x))) := by
    unfold Pipeline.launchCred
    have h := bigSep_subset (Φ := fun sm : SemLoc sig => (cred (tallyOn ((c : Thread nD τ), sm) (launchCredit (Pipeline.owing O₀) 0 ((c : Thread nD τ), sm))) : sProp 𝕄))
      (Finset.subset_univ (Finset.univ.map ⟨semOf, semOf_injective⟩))
    rw [bigSep_map] at h; exact h
  refine hcells.trans ?_
  rw [bigSep_cells]
  unfold credits
  rw [launched _ _ (launched_bar c), bigSep_congr fun k _ => congrArg cred (launched _ _ (launched_recv c k))]
  iintro ⟨HB, -, HR⟩
  isplitl [HB] <;> iassumption

/-! ## The conditions at the kernel's two ends -/

theorem share_eq (c : Dev nD) (w : Fin cfg0.W) : (dats m ρ 0 c).share w = fullShare := by unfold Dat.share; split <;> rfl

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hr, HzB, HzS, HzR⟩
  isplitl [HzB]; · iexact HzB
  isplitl [HzS HzR]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the run leaves in window `w`'s array on device `c`. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, every weakly fair execution of the kernel on the 32 devices ends, with
    each device's two arrays at `finalA` and every counter at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array holds what it held. -/
theorem finalA_x (c : Dev nD) : finalA m ρ c (0 : Fin 2) = m ((c : Thread nD τ).loc main_arg0) :=
  (dats (F := F) m ρ 0 c).arrAt_in (0 : Fin 2) rfl _

/-- Either window's one block lies in its array element on element. -/
theorem blk_x (t : Fin cfg0.N) (i : Wide.Idx) : (win0_0.blk t).view.emb i = i :=
  funext fun a => Fin.ext (by show 0 * _ + 1 * (i a).val = (i a).val; rw [Nat.zero_mul, Nat.zero_add, Nat.one_mul])
theorem blk_o (t : Fin cfg0.N) (i : Tall.Idx) : (win0_1.blk t).view.emb i = i :=
  funext fun a => Fin.ext (by show 0 * _ + 1 * (i a).val = (i a).val; rw [Nat.zero_mul, Nat.zero_add, Nat.one_mul])

omit [FloatOps F] in
/-- What a device stages in is the whole of its input array, -/
theorem xstg_eq (c : Dev nD) : xstg m ρ c = m ((c : Thread nD τ).loc main_arg0) :=
  funext fun i => congrArg (m ((c : Thread nD τ).loc main_arg0)) (blk_x (0 : Fin 1) i)

theorem flushed_o (c : Dev nD) (t : Fin cfg0.N) :
    (dats m ρ 0 c).flushed (1 : Fin 2) t = ((cfg0.win 1).blk t).view.read (Elt F) (outAt m ρ c) := by
  have ha : (dats m ρ 0 c).after (1 : Fin 2) t = outAt m ρ c := by dsimp only [dats]
  unfold Pipeline.Dat.flushed
  rw [ha]
  exact funext fun i => (congrArg (outAt m ρ c) (blk_o t i)).symm

theorem cover_o (i : Tall.Idx) : ∃ t : Fin cfg0.N, (cfg0.win 1).flush t = true ∧ i ∈ ((cfg0.win 1).blk t).view.set :=
  ⟨t0_0, flush0_1 _, Finset.mem_map.mpr ⟨i, Finset.mem_univ i, blk_o t0_0 i⟩⟩

/-- and what the run leaves in its result array is the exchanged contents. -/
theorem finalA_o (c : Dev nD) : finalA m ρ c (1 : Fin 2) = outAt m ρ c :=
  (dats m ρ 0 c).arrAt_eq_of_cover (1 : Fin 2) (outAt m ρ c) (fun t _ => flushed_o m ρ c t) cover_o

/-- The same run, read at the two arrays: the input array keeps what it held, and the result array holds in each band of
    rows the square the device at that position of the group held for this one. -/
theorem run_arrays : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_v1) = gathered (fun d : Dev nD => m ((d : Thread nD τ).loc main_arg0)) c)
    ∧ r.2.sem = fun _ => 0) :=
  (θ_run defs (onTc (τ := τ) (main (F := F))) (s₀ m ρ)).mono (fun r h =>
    ⟨fun c => ⟨(h.1 c (0 : Fin 2)).trans (finalA_x m ρ c),
      (h.1 c (1 : Fin 2)).trans ((finalA_o m ρ c).trans (congrArg (fun x => gathered x c) (funext fun d => xstg_eq m ρ d)))⟩, h.2⟩) (run_main m ρ)

end Cert.KernelIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Blocks
public import proofs.«01_k».proof.Proof.Kernel.Launch
public import proofs.«01_k».proof.Proof.KernelIdeal.Launch
public import Idealize.ShloMosaic.Lib.Claim
public import Idealize.ShloMosaic.Lib.Quiescent
public import Idealize.ShloMosaic.Lib.StableHlo.RunHlo
public import Idealize.ShloMosaic.Adequacy
public import Idealize.ShloMosaic.Init

@[expose] public section

noncomputable section

namespace Cert.Proof

open Idealize.ShloMosaic Idealize.ShloMosaic.TcCoe Idealize.SL.Sem

/-- The kernel as printed runs at machine floats, leaves its argument as it was and every counter at zero. -/
theorem frame_kernel : Cert.quiescent_Kernel (hKernel := Cert.Kernel.Gen.facts) := fun m g _ =>
  θ_run_mono (Cert.Kernel.Run.run_arrays (F := Bits) m g) fun _ h => ⟨fun c => (h.1 c).1, h.2⟩

/-- So does its idealization at extended reals, -/
theorem frame_ideal : Cert.quiescent_KernelIdeal (hKernelIdeal := Cert.KernelIdeal.Gen.facts) := fun m g _ =>
  θ_run_mono (Cert.KernelIdeal.Run.run_arrays (F := Ideal) m g) fun _ h => ⟨fun c => (h.1 c).1, h.2⟩

/-- and the reference, which returns its argument: resharding moves no element of the whole array. -/
theorem frame_reference : Cert.quiescent_ReferenceIdeal (hReferenceIdeal := Cert.ReferenceIdeal.Gen.facts) := fun m g _ => by
  refine θ_run_mono (Q := fun r => ∀ c : Dev Cert.ReferenceIdeal.nD,
      r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) ?_
    fun r h => ⟨h, sem_eq_zero_of_no_sems (by decide) r.2⟩
  hlo_run

/-- From blocks of rows of one array on the devices of every group, the kernel ends with the blocks of columns of the
    array the reference returns. -/
theorem exchanges : Cert.algebraic_KernelIdeal_ReferenceIdeal (hKernelIdeal := Cert.KernelIdeal.Gen.facts)
    (hReferenceIdeal := Cert.ReferenceIdeal.Gen.facts) := fun m g m' g' _ hagree =>
  ⟨m' (((0 : Dev Cert.ReferenceIdeal.nD).tc : Thread Cert.ReferenceIdeal.nD Cert.ReferenceIdeal.τ).loc Cert.ReferenceIdeal.main_arg0),
    θ_run_mono (Cert.KernelIdeal.Run.run_arrays (F := Ideal) m g) fun _ h c =>
      ⟨(h.1 c).2.trans ((congrArg (fun x => Cert.Exchange.gathered x c) (funext hagree)).trans (Cert.Exchange.gathered_blocks _ c)), (h.1 c).1⟩,
    θ_run_mono (frame_reference m' g' trivial) fun _ h => ⟨h.1 0, h.1 0⟩⟩

theorem claim : Cert.Claim :=
  ⟨Cert.Kernel.Gen.facts, Cert.KernelIdeal.Gen.facts, Cert.ReferenceIdeal.Gen.facts,
    frame_kernel, frame_ideal, frame_reference, trivial, exchanges⟩

end Cert.Proof

end
